-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_plausible [hPre_plausible : Cert.Pre_plausible.Facts] (m : (ℓ : Loc Cert.KernelIdeal.nD Cert.KernelIdeal.τ Cert.KernelIdeal.sig) → Buf (Elt Ideal) ℓ) : Prop :=
  ∀ c : Dev Cert.KernelIdeal.nD,
    (Cert.Pre_plausible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_plausible [hPre_plausible : Cert.Pre_plausible.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_plausible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_plausible [hKernelIdeal : Cert.KernelIdeal.Facts] [hPre_plausible : Cert.Pre_plausible.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_plausible m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_plausible [hReferenceIdeal : Cert.ReferenceIdeal.Facts] [hPre_plausible : Cert.Pre_plausible.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_plausible m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "edge1" .f32 0x3DCCCCCD#32 ((1 / 10 : ℝ) : EReal)
  ∧ IdealRules.named_const.Statement Cert.KernelIdeal.κ "edge2" .f32 0x3E4CCCCD#32 ((1 / 5 : ℝ) : EReal)
  ∧ IdealRules.named_const.Statement Cert.KernelIdeal.κ "edge3" .f32 0x3E99999A#32 ((3 / 10 : ℝ) : EReal)
  ∧ IdealRules.named_const.Statement Cert.KernelIdeal.κ "edge4" .f32 0x3ECCCCCD#32 ((2 / 5 : ℝ) : EReal)
  ∧ IdealRules.named_const.Statement Cert.KernelIdeal.κ "edge5" .f32 0x3F000000#32 ((1 / 2 : ℝ) : EReal)
  ∧ IdealRules.named_const.Statement Cert.KernelIdeal.κ "edge6" .f32 0x3F19999A#32 ((3 / 5 : ℝ) : EReal)
  ∧ IdealRules.named_const.Statement Cert.KernelIdeal.κ "edge7" .f32 0x3F333333#32 ((7 / 10 : ℝ) : EReal)
  ∧ IdealRules.named_const.Statement Cert.KernelIdeal.κ "edge8" .f32 0x3F4CCCCD#32 ((4 / 5 : ℝ) : EReal)
  ∧ IdealRules.named_const.Statement Cert.KernelIdeal.κ "edge9" .f32 0x3F666666#32 ((9 / 10 : ℝ) : EReal)

def algebraic_KernelIdeal_ReferenceIdeal_pre_plausible [hKernelIdeal : Cert.KernelIdeal.Facts] [hReferenceIdeal : Cert.ReferenceIdeal.Facts] [hPre_plausible : Cert.Pre_plausible.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_plausible m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v230) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_plausible : Cert.Pre_plausible.Facts),
    quiescent_Kernel (hKernel := hKernel)
    ∧ quiescent_KernelIdeal (hKernelIdeal := hKernelIdeal)
    ∧ quiescent_KernelIdeal_pre_plausible (hKernelIdeal := hKernelIdeal) (hPre_plausible := hPre_plausible)
    ∧ quiescent_ReferenceIdeal (hReferenceIdeal := hReferenceIdeal)
    ∧ quiescent_ReferenceIdeal_pre_plausible (hReferenceIdeal := hReferenceIdeal) (hPre_plausible := hPre_plausible)
    ∧ preserves_Kernel_KernelIdeal
    ∧ algebraic_KernelIdeal_ReferenceIdeal_pre_plausible (hKernelIdeal := hKernelIdeal) (hReferenceIdeal := hReferenceIdeal) (hPre_plausible := hPre_plausible)
-- ==== Pre_plausible.lean ====
abbrev S131072x80 : Shape := ⟨2, ![131072, 80]⟩
abbrev S_ : Shape := ⟨0, ![]⟩

class Facts : Prop where
  bcast_S_S131072x80 : S_.BroadcastsInDim S131072x80 (![] : Fin 0 → Fin S131072x80.rank)
  reducesTo_S131072x80_S_d0_1 : S131072x80.ReducesTo [0, 1] S_
  h_S_ : 0 < S_.numel

variable [Facts]

def fn {F : FTy → Type} [FloatOps F] (main_arg0 : FVec F S131072x80 .f32) (main_arg1 : FVec F S131072x80 .f32) : IVec S_ 1 :=
  let main_v0 : FVec F S131072x80 .f32 := Host.absf main_arg0
  let main_cst : FVec F S_ .f32 := constant S_ .f32 0x7F800000#32
  let main_v1 : FVec F S131072x80 .f32 := broadcastInDim S131072x80 ![] bcast_S_S131072x80 main_cst
  let main_v2 : IVec S131072x80 1 := cmpf .olt main_v0 main_v1
  let main_c : IVec S_ 1 := constantI S_ 1 1#1
  let main_v3 : IVec S_ 1 := (fun x v => Host.reduce IntOp.andi x v reducesTo_S131072x80_S_d0_1 h_S_) main_v2 main_c
  let main_cst_0 : FVec F S_ .f32 := constant S_ .f32 0x00000000#32
  let main_v4 : FVec F S131072x80 .f32 := broadcastInDim S131072x80 ![] bcast_S_S131072x80 main_cst_0
  let main_v5 : IVec S131072x80 1 := cmpf .oge main_arg1 main_v4
  let main_cst_1 : FVec F S_ .f32 := constant S_ .f32 0x3F800000#32
  let main_v6 : FVec F S131072x80 .f32 := broadcastInDim S131072x80 ![] bcast_S_S131072x80 main_cst_1
  let main_v7 : IVec S131072x80 1 := cmpf .ole main_arg1 main_v6
  let main_v8 : IVec S131072x80 1 := andi main_v5 main_v7
  let main_c_2 : IVec S_ 1 := constantI S_ 1 1#1
  let main_v9 : IVec S_ 1 := (fun x v => Host.reduce IntOp.andi x v reducesTo_S131072x80_S_d0_1 h_S_) main_v8 main_c_2
  let main_v10 : IVec S_ 1 := andi main_v3 main_v9
  main_v10
-- ==== Kernel.lean ====
abbrev S131072x80 : Shape := ⟨2, ![131072, 80]⟩
abbrev S1 : Shape := ⟨1, ![1]⟩
abbrev S_ : Shape := ⟨0, ![]⟩
abbrev S16384x80 : Shape := ⟨2, ![16384, 80]⟩
abbrev S72x80 : Shape := ⟨2, ![72, 80]⟩
abbrev S80x80 : Shape := ⟨2, ![80, 80]⟩
abbrev S8x80 : Shape := ⟨2, ![8, 80]⟩
abbrev S128x80 : Shape := ⟨2, ![128, 80]⟩
abbrev S64x80 : Shape := ⟨2, ![64, 80]⟩
abbrev S32x80 : Shape := ⟨2, ![32, 80]⟩
abbrev S16x80 : Shape := ⟨2, ![16, 80]⟩
abbrev S1x8x80 : Shape := ⟨3, ![1, 8, 80]⟩
abbrev S1x1x1 : Shape := ⟨3, ![1, 1, 1]⟩

abbrev nBuf : Space → Nat
  | .hbm => 4
  | .vmem => 6
  | .smem => 1
  | _ => 0

abbrev bufTy : (tb : Table) → Fin (tcTables nBuf tb) → BufTy
  | .hbm, ⟨0, _⟩ => ⟨S131072x80, .f32⟩
  | .hbm, ⟨1, _⟩ => ⟨S131072x80, .f32⟩
  | .hbm, ⟨2, _⟩ => ⟨S1, .f32⟩
  | .hbm, ⟨3, _⟩ => ⟨S_, .f32⟩
  | .local _ .vmem, ⟨0, _⟩ => ⟨S16384x80, .f32⟩
  | .local _ .vmem, ⟨1, _⟩ => ⟨S16384x80, .f32⟩
  | .local _ .vmem, ⟨2, _⟩ => ⟨S16384x80, .f32⟩
  | .local _ .vmem, ⟨3, _⟩ => ⟨S16384x80, .f32⟩
  | .local _ .vmem, ⟨4, _⟩ => ⟨S72x80, .f32⟩
  | .local _ .vmem, ⟨5, _⟩ => ⟨S80x80, .f32⟩
  | .local _ .smem, ⟨0, _⟩ => ⟨S1, .f32⟩
  | _, _ => ⟨S131072x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_1 : BitVec 32 := 0#32
  let c128_i32 : BitVec 32 := 128#32
  let v4 : BitVec 32 := Scalar.addi c0_i32_1 c128_i32
  let c1_i32 : BitVec 32 := 1#32
  ⟨c0_i32_1, v4, c1_i32⟩
def k0_off1 (k0_t1 : Fin k0_t1_loop.trips) : Fin 2 → Nat :=
  let c0_i32_1 : BitVec 32 := 0#32
  let c1_i32 : BitVec 32 := 1#32
  let arg6 : BitVec 32 := Scf.iv c0_i32_1 c1_i32 k0_t1
  let c128_i32_70 : BitVec 32 := 128#32
  let v104 : BitVec 32 := Scalar.muli arg6 c128_i32_70
  let v105 : Index := Scalar.indexCast v104
  let c0_71 : Index := 0#32
  ![v105.toNat, 0]
def k0_cond2 (i : grid0.Coords) : BitVec 1 :=
  let arg0 : BitVec 32 := BitVec.ofNat 32 (i 0).val
  let c7_i32 : BitVec 32 := 7#32
  let v101 : BitVec 1 := Scalar.cmpi .eq arg0 c7_i32
  let v102 : BitVec 32 := Scalar.extui v101
  let c0_i32_69 : BitVec 32 := 0#32
  let v103 : BitVec 1 := Scalar.cmpi .ne v102 c0_i32_69
  v103

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S16384x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x80 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== KernelIdeal.lean ====
variable {F : FTy → Type} [FloatOps F] [Named F]
def κ : String → Option EReal := fun
  | "edge1" => some ((1 / 10 : ℝ) : EReal)
  | "edge2" => some ((1 / 5 : ℝ) : EReal)
  | "edge3" => some ((3 / 10 : ℝ) : EReal)
  | "edge4" => some ((2 / 5 : ℝ) : EReal)
  | "edge5" => some ((1 / 2 : ℝ) : EReal)
  | "edge6" => some ((3 / 5 : ℝ) : EReal)
  | "edge7" => some ((7 / 10 : ℝ) : EReal)
  | "edge8" => some ((4 / 5 : ℝ) : EReal)
  | "edge9" => some ((9 / 10 : ℝ) : EReal)
  | _ => none
-- ==== ReferenceIdeal.lean ====
abbrev S131072x80 : Shape := ⟨2, ![131072, 80]⟩
abbrev S11 : Shape := ⟨1, ![11]⟩
abbrev S_ : Shape := ⟨0, ![]⟩
abbrev S1 : Shape := ⟨1, ![1]⟩

abbrev nBuf : Space → Nat
  | .hbm => 295
  | .vmem => 0
  | .smem => 0
  | _ => 0

abbrev hbmTy0_0 (i : Nat) : BufTy := match i % 128 with
  | 0 => ⟨S131072x80, .f32⟩
  | 1 => ⟨S131072x80, .f32⟩
  | 2 => ⟨S11, .f32⟩
  | 3 => ⟨S_, .f32⟩
  | 4 => ⟨S11, .f32⟩
  | 5 => ⟨S11, .f32⟩
  | 6 => ⟨S_, .i32⟩
  | 7 => ⟨S1, .i32⟩
  | 8 => ⟨S_, .f32⟩
  | 9 => ⟨S11, .f32⟩
  | 10 => ⟨S131072x80, .f32⟩
  | 11 => ⟨S131072x80, .f32⟩
  | 12 => ⟨S_, .f32⟩
  | 13 => ⟨S131072x80, .f32⟩
  | 14 => ⟨S131072x80, .f32⟩
  | 15 => ⟨S_, .f32⟩
  | 16 => ⟨S131072x80, .f32⟩
  | 17 => ⟨S131072x80, .f32⟩
  | 18 => ⟨S131072x80, .f32⟩
  | 19 => ⟨S131072x80, .f32⟩
  | 20 => ⟨S_, .f32⟩
  | 21 => ⟨S131072x80, .f32⟩
  | 22 => ⟨S1, .f32⟩
  | 23 => ⟨S_, .f32⟩
  | 24 => ⟨S131072x80, .f32⟩
  | 25 => ⟨S131072x80, .i1⟩
  | 26 => ⟨S1, .f32⟩
  | 27 => ⟨S_, .f32⟩
  | 28 => ⟨S131072x80, .f32⟩
  | 29 => ⟨S131072x80, .i1⟩
  | 30 => ⟨S131072x80, .i1⟩
  | 31 => ⟨S131072x80, .i32⟩
  | 32 => ⟨S_, .i32⟩
  | 33 => ⟨S_, .i32⟩
  | 34 => ⟨S_, .f32⟩
  | 35 => ⟨S_, .f32⟩
  | 36 => ⟨S_, .i1⟩
  | 37 => ⟨S131072x80, .i1⟩
  | 38 => ⟨S131072x80, .i1⟩
  | 39 => ⟨S_, .f32⟩
  | 40 => ⟨S_, .f32⟩
  | 41 => ⟨S_, .f32⟩
  | 42 => ⟨S_, .f32⟩
  | 43 => ⟨S131072x80, .f32⟩
  | 44 => ⟨S131072x80, .f32⟩
  | 45 => ⟨S_, .f32⟩
  | 46 => ⟨S_, .f32⟩
  | 47 => ⟨S_, .f32⟩
  | 48 => ⟨S1, .f32⟩
  | 49 => ⟨S_, .f32⟩
  | 50 => ⟨S131072x80, .f32⟩
  | 51 => ⟨S131072x80, .i1⟩
  | 52 => ⟨S1, .f32⟩
  | 53 => ⟨S_, .f32⟩
  | 54 => ⟨S131072x80, .f32⟩
  | 55 => ⟨S131072x80, .i1⟩
  | 56 => ⟨S131072x80, .i1⟩
  | 57 => ⟨S131072x80, .i32⟩
  | 58 => ⟨S_, .i32⟩
  | 59 => ⟨S_, .i32⟩
  | 60 => ⟨S_, .f32⟩
  | 61 => ⟨S_, .f32⟩
  | 62 => ⟨S_, .i1⟩
  | 63 => ⟨S131072x80, .i1⟩
  | 64 => ⟨S131072x80, .i1⟩
  | 65 => ⟨S_, .f32⟩
  | 66 => ⟨S_, .f32⟩
  | 67 => ⟨S_, .f32⟩
  | 68 => ⟨S_, .f32⟩
  | 69 => ⟨S131072x80, .f32⟩
  | 70 => ⟨S131072x80, .f32⟩
  | 71 => ⟨S_, .f32⟩
  | 72 => ⟨S_, .f32⟩
  | 73 => ⟨S1, .f32⟩
  | 74 => ⟨S_, .f32⟩
  | 75 => ⟨S131072x80, .f32⟩
  | 76 => ⟨S131072x80, .i1⟩
  | 77 => ⟨S1, .f32⟩
  | 78 => ⟨S_, .f32⟩
  | 79 => ⟨S131072x80, .f32⟩
  | 80 => ⟨S131072x80, .i1⟩
  | 81 => ⟨S131072x80, .i1⟩
  | 82 => ⟨S131072x80, .i32⟩
  | 83 => ⟨S_, .i32⟩
  | 84 => ⟨S_, .i32⟩
  | 85 => ⟨S_, .f32⟩
  | 86 => ⟨S_, .f32⟩
  | 87 => ⟨S_, .i1⟩
  | 88 => ⟨S131072x80, .i1⟩
  | 89 => ⟨S131072x80, .i1⟩
  | 90 => ⟨S_, .f32⟩
  | 91 => ⟨S_, .f32⟩
  | 92 => ⟨S_, .f32⟩
  | 93 => ⟨S_, .f32⟩
  | 94 => ⟨S131072x80, .f32⟩
  | 95 => ⟨S131072x80, .f32⟩
  | 96 => ⟨S_, .f32⟩
  | 97 => ⟨S_, .f32⟩
  | 98 => ⟨S1, .f32⟩
  | 99 => ⟨S_, .f32⟩
  | 100 => ⟨S131072x80, .f32⟩
  | 101 => ⟨S131072x80, .i1⟩
  | 102 => ⟨S1, .f32⟩
  | 103 => ⟨S_, .f32⟩
  | 104 => ⟨S131072x80, .f32⟩
  | 105 => ⟨S131072x80, .i1⟩
  | 106 => ⟨S131072x80, .i1⟩
  | 107 => ⟨S131072x80, .i32⟩
  | 108 => ⟨S_, .i32⟩
  | 109 => ⟨S_, .i32⟩
  | 110 => ⟨S_, .f32⟩
  | 111 => ⟨S_, .f32⟩
  | 112 => ⟨S_, .i1⟩
  | 113 => ⟨S131072x80, .i1⟩
  | 114 => ⟨S131072x80, .i1⟩
  | 115 => ⟨S_, .f32⟩
  | 116 => ⟨S_, .f32⟩
  | 117 => ⟨S_, .f32⟩
  | 118 => ⟨S_, .f32⟩
  | 119 => ⟨S131072x80, .f32⟩
  | 120 => ⟨S131072x80, .f32⟩
  | 121 => ⟨S_, .f32⟩
  | 122 => ⟨S_, .f32⟩
  | 123 => ⟨S1, .f32⟩
  | 124 => ⟨S_, .f32⟩
  | 125 => ⟨S131072x80, .f32⟩
  | 126 => ⟨S131072x80, .i1⟩
  | 127 => ⟨S1, .f32⟩
  | _ => ⟨S131072x80, .f32⟩

abbrev hbmTy0_1 (i : Nat) : BufTy := match i % 128 with
  | 0 => ⟨S_, .f32⟩
  | 1 => ⟨S131072x80, .f32⟩
  | 2 => ⟨S131072x80, .i1⟩
  | 3 => ⟨S131072x80, .i1⟩
  | 4 => ⟨S131072x80, .i32⟩
  | 5 => ⟨S_, .i32⟩
  | 6 => ⟨S_, .i32⟩
  | 7 => ⟨S_, .f32⟩
  | 8 => ⟨S_, .f32⟩
  | 9 => ⟨S_, .i1⟩
  | 10 => ⟨S131072x80, .i1⟩
  | 11 => ⟨S131072x80, .i1⟩
  | 12 => ⟨S_, .f32⟩
  | 13 => ⟨S_, .f32⟩
  | 14 => ⟨S_, .f32⟩
  | 15 => ⟨S_, .f32⟩
  | 16 => ⟨S131072x80, .f32⟩
  | 17 => ⟨S131072x80, .f32⟩
  | 18 => ⟨S_, .f32⟩
  | 19 => ⟨S_, .f32⟩
  | 20 => ⟨S1, .f32⟩
  | 21 => ⟨S_, .f32⟩
  | 22 => ⟨S131072x80, .f32⟩
  | 23 => ⟨S131072x80, .i1⟩
  | 24 => ⟨S1, .f32⟩
  | 25 => ⟨S_, .f32⟩
  | 26 => ⟨S131072x80, .f32⟩
  | 27 => ⟨S131072x80, .i1⟩
  | 28 => ⟨S131072x80, .i1⟩
  | 29 => ⟨S131072x80, .i32⟩
  | 30 => ⟨S_, .i32⟩
  | 31 => ⟨S_, .i32⟩
  | 32 => ⟨S_, .f32⟩
  | 33 => ⟨S_, .f32⟩
  | 34 => ⟨S_, .i1⟩
  | 35 => ⟨S131072x80, .i1⟩
  | 36 => ⟨S131072x80, .i1⟩
  | 37 => ⟨S_, .f32⟩
  | 38 => ⟨S_, .f32⟩
  | 39 => ⟨S_, .f32⟩
  | 40 => ⟨S_, .f32⟩
  | 41 => ⟨S131072x80, .f32⟩
  | 42 => ⟨S131072x80, .f32⟩
  | 43 => ⟨S_, .f32⟩
  | 44 => ⟨S_, .f32⟩
  | 45 => ⟨S1, .f32⟩
  | 46 => ⟨S_, .f32⟩
  | 47 => ⟨S131072x80, .f32⟩
  | 48 => ⟨S131072x80, .i1⟩
  | 49 => ⟨S1, .f32⟩
  | 50 => ⟨S_, .f32⟩
  | 51 => ⟨S131072x80, .f32⟩
  | 52 => ⟨S131072x80, .i1⟩
  | 53 => ⟨S131072x80, .i1⟩
  | 54 => ⟨S131072x80, .i32⟩
  | 55 => ⟨S_, .i32⟩
  | 56 => ⟨S_, .i32⟩
  | 57 => ⟨S_, .f32⟩
  | 58 => ⟨S_, .f32⟩
  | 59 => ⟨S_, .i1⟩
  | 60 => ⟨S131072x80, .i1⟩
  | 61 => ⟨S131072x80, .i1⟩
  | 62 => ⟨S_, .f32⟩
  | 63 => ⟨S_, .f32⟩
  | 64 => ⟨S_, .f32⟩
  | 65 => ⟨S_, .f32⟩
  | 66 => ⟨S131072x80, .f32⟩
  | 67 => ⟨S131072x80, .f32⟩
  | 68 => ⟨S_, .f32⟩
  | 69 => ⟨S_, .f32⟩
  | 70 => ⟨S1, .f32⟩
  | 71 => ⟨S_, .f32⟩
  | 72 => ⟨S131072x80, .f32⟩
  | 73 => ⟨S131072x80, .i1⟩
  | 74 => ⟨S1, .f32⟩
  | 75 => ⟨S_, .f32⟩
  | 76 => ⟨S131072x80, .f32⟩
  | 77 => ⟨S131072x80, .i1⟩
  | 78 => ⟨S131072x80, .i1⟩
  | 79 => ⟨S131072x80, .i32⟩
  | 80 => ⟨S_, .i32⟩
  | 81 => ⟨S_, .i32⟩
  | 82 => ⟨S_, .f32⟩
  | 83 => ⟨S_, .f32⟩
  | 84 => ⟨S_, .i1⟩
  | 85 => ⟨S131072x80, .i1⟩
  | 86 => ⟨S131072x80, .i1⟩
  | 87 => ⟨S_, .f32⟩
  | 88 => ⟨S_, .f32⟩
  | 89 => ⟨S_, .f32⟩
  | 90 => ⟨S_, .f32⟩
  | 91 => ⟨S131072x80, .f32⟩
  | 92 => ⟨S131072x80, .f32⟩
  | 93 => ⟨S_, .f32⟩
  | 94 => ⟨S_, .f32⟩
  | 95 => ⟨S1, .f32⟩
  | 96 => ⟨S_, .f32⟩
  | 97 => ⟨S131072x80, .f32⟩
  | 98 => ⟨S131072x80, .i1⟩
  | 99 => ⟨S1, .f32⟩
  | 100 => ⟨S_, .f32⟩
  | 101 => ⟨S131072x80, .f32⟩
  | 102 => ⟨S131072x80, .i1⟩
  | 103 => ⟨S131072x80, .i1⟩
  | 104 => ⟨S131072x80, .i32⟩
  | 105 => ⟨S_, .i32⟩
  | 106 => ⟨S_, .i32⟩
  | 107 => ⟨S_, .f32⟩
  | 108 => ⟨S_, .f32⟩
  | 109 => ⟨S_, .i1⟩
  | 110 => ⟨S131072x80, .i1⟩
  | 111 => ⟨S131072x80, .i1⟩
  | 112 => ⟨S_, .f32⟩
  | 113 => ⟨S_, .f32⟩
  | 114 => ⟨S_, .f32⟩
  | 115 => ⟨S_, .f32⟩
  | 116 => ⟨S131072x80, .f32⟩
  | 117 => ⟨S131072x80, .f32⟩
  | 118 => ⟨S_, .f32⟩
  | 119 => ⟨S_, .f32⟩
  | 120 => ⟨S1, .f32⟩
  | 121 => ⟨S_, .f32⟩
  | 122 => ⟨S131072x80, .f32⟩
  | 123 => ⟨S131072x80, .i1⟩
  | 124 => ⟨S1, .f32⟩
  | 125 => ⟨S_, .f32⟩
  | 126 => ⟨S131072x80, .f32⟩
  | 127 => ⟨S131072x80, .i1⟩
  | _ => ⟨S131072x80, .f32⟩

abbrev hbmTy0_2 (i : Nat) : BufTy := match i % 128 with
  | 0 => ⟨S131072x80, .i1⟩
  | 1 => ⟨S131072x80, .i32⟩
  | 2 => ⟨S_, .i32⟩
  | 3 => ⟨S_, .i32⟩
  | 4 => ⟨S_, .f32⟩
  | 5 => ⟨S_, .f32⟩
  | 6 => ⟨S_, .i1⟩
  | 7 => ⟨S131072x80, .i1⟩
  | 8 => ⟨S131072x80, .i1⟩
  | 9 => ⟨S_, .f32⟩
  | 10 => ⟨S_, .f32⟩
  | 11 => ⟨S_, .f32⟩
  | 12 => ⟨S_, .f32⟩
  | 13 => ⟨S131072x80, .f32⟩
  | 14 => ⟨S131072x80, .f32⟩
  | 15 => ⟨S_, .f32⟩
  | 16 => ⟨S_, .f32⟩
  | 17 => ⟨S_, .f32⟩
  | 18 => ⟨S_, .i1⟩
  | 19 => ⟨S_, .f32⟩
  | 20 => ⟨S_, .f32⟩
  | 21 => ⟨S131072x80, .f32⟩
  | 22 => ⟨S131072x80, .f32⟩
  | 23 => ⟨S131072x80, .f32⟩
  | 24 => ⟨S_, .f32⟩
  | 25 => ⟨S131072x80, .f32⟩
  | 26 => ⟨S131072x80, .f32⟩
  | 27 => ⟨S131072x80, .f32⟩
  | 28 => ⟨S131072x80, .f32⟩
  | 29 => ⟨S131072x80, .f32⟩
  | 30 => ⟨S131072x80, .f32⟩
  | 31 => ⟨S131072x80, .f32⟩
  | 32 => ⟨S131072x80, .f32⟩
  | 33 => ⟨S131072x80, .f32⟩
  | 34 => ⟨S131072x80, .f32⟩
  | 35 => ⟨S_, .f32⟩
  | 36 => ⟨S_, .f32⟩
  | 37 => ⟨S_, .f32⟩
  | 38 => ⟨S_, .f32⟩
  | _ => ⟨S131072x80, .f32⟩

abbrev hbmTy (i : Nat) : BufTy := match i / 128 with
  | 0 => hbmTy0_0 i
  | 1 => hbmTy0_1 i
  | 2 => hbmTy0_2 i
  | _ => ⟨S131072x80, .f32⟩

abbrev bufTy : (tb : Table) → Fin (tcTables nBuf tb) → BufTy
  | .hbm, ⟨i, _⟩ => hbmTy i
  | _, _ => ⟨S131072x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_4 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_call0_v0 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_9 : Ref sig .tc := ⟨.hbm, 58, rfl⟩
abbrev main_v44 : Ref sig .tc := ⟨.hbm, 59, rfl⟩
abbrev main_v45 : Ref sig .tc := ⟨.hbm, 60, rfl⟩
abbrev main_cst_10 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_11 : Ref sig .tc := ⟨.hbm, 65, rfl⟩
abbrev main_v49 : Ref sig .tc := ⟨.hbm, 66, rfl⟩
abbrev main_cst_12 : Ref sig .tc := ⟨.hbm, 67, rfl⟩
abbrev main_v50 : Ref sig .tc := ⟨.hbm, 68, rfl⟩
abbrev main_call1_v0 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_c_13 : Ref sig .tc := ⟨.hbm, 83, rfl⟩
abbrev main_v64 : Ref sig .tc := ⟨.hbm, 84, rfl⟩
abbrev main_v65 : Ref sig .tc := ⟨.hbm, 85, rfl⟩
abbrev main_cst_14 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_15 : Ref sig .tc := ⟨.hbm, 90, rfl⟩
abbrev main_v69 : Ref sig .tc := ⟨.hbm, 91, rfl⟩
abbrev main_cst_16 : Ref sig .tc := ⟨.hbm, 92, rfl⟩
abbrev main_v70 : Ref sig .tc := ⟨.hbm, 93, rfl⟩
abbrev main_call2_v0 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_c_17 : Ref sig .tc := ⟨.hbm, 108, rfl⟩
abbrev main_v84 : Ref sig .tc := ⟨.hbm, 109, rfl⟩
abbrev main_v85 : Ref sig .tc := ⟨.hbm, 110, rfl⟩
abbrev main_cst_18 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_19 : Ref sig .tc := ⟨.hbm, 115, rfl⟩
abbrev main_v89 : Ref sig .tc := ⟨.hbm, 116, rfl⟩
abbrev main_cst_20 : Ref sig .tc := ⟨.hbm, 117, rfl⟩
abbrev main_v90 : Ref sig .tc := ⟨.hbm, 118, rfl⟩
abbrev main_call3_v0 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_c_21 : Ref sig .tc := ⟨.hbm, 133, rfl⟩
abbrev main_v104 : Ref sig .tc := ⟨.hbm, 134, rfl⟩
abbrev main_v105 : Ref sig .tc := ⟨.hbm, 135, rfl⟩
abbrev main_cst_22 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_cst_23 : Ref sig .tc := ⟨.hbm, 140, rfl⟩
abbrev main_v109 : Ref sig .tc := ⟨.hbm, 141, rfl⟩
abbrev main_cst_24 : Ref sig .tc := ⟨.hbm, 142, rfl⟩
abbrev main_v110 : Ref sig .tc := ⟨.hbm, 143, rfl⟩
abbrev main_call4_v0 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_c_25 : Ref sig .tc := ⟨.hbm, 158, rfl⟩
abbrev main_v124 : Ref sig .tc := ⟨.hbm, 159, rfl⟩
abbrev main_v125 : Ref sig .tc := ⟨.hbm, 160, rfl⟩
abbrev main_cst_26 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_cst_27 : Ref sig .tc := ⟨.hbm, 165, rfl⟩
abbrev main_v129 : Ref sig .tc := ⟨.hbm, 166, rfl⟩
abbrev main_cst_28 : Ref sig .tc := ⟨.hbm, 167, rfl⟩
abbrev main_v130 : Ref sig .tc := ⟨.hbm, 168, rfl⟩
abbrev main_call5_v0 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_c_29 : Ref sig .tc := ⟨.hbm, 183, rfl⟩
abbrev main_v144 : Ref sig .tc := ⟨.hbm, 184, rfl⟩
abbrev main_v145 : Ref sig .tc := ⟨.hbm, 185, rfl⟩
abbrev main_cst_30 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_cst_31 : Ref sig .tc := ⟨.hbm, 190, rfl⟩
abbrev main_v149 : Ref sig .tc := ⟨.hbm, 191, rfl⟩
abbrev main_cst_32 : Ref sig .tc := ⟨.hbm, 192, rfl⟩
abbrev main_v150 : Ref sig .tc := ⟨.hbm, 193, rfl⟩
abbrev main_call6_v0 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_c_33 : Ref sig .tc := ⟨.hbm, 208, rfl⟩
abbrev main_v164 : Ref sig .tc := ⟨.hbm, 209, rfl⟩
abbrev main_v165 : Ref sig .tc := ⟨.hbm, 210, rfl⟩
abbrev main_cst_34 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_cst_35 : Ref sig .tc := ⟨.hbm, 215, rfl⟩
abbrev main_v169 : Ref sig .tc := ⟨.hbm, 216, rfl⟩
abbrev main_cst_36 : Ref sig .tc := ⟨.hbm, 217, rfl⟩
abbrev main_v170 : Ref sig .tc := ⟨.hbm, 218, rfl⟩
abbrev main_call7_v0 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_c_37 : Ref sig .tc := ⟨.hbm, 233, rfl⟩
abbrev main_v184 : Ref sig .tc := ⟨.hbm, 234, rfl⟩
abbrev main_v185 : Ref sig .tc := ⟨.hbm, 235, rfl⟩
abbrev main_cst_38 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_cst_39 : Ref sig .tc := ⟨.hbm, 240, rfl⟩
abbrev main_v189 : Ref sig .tc := ⟨.hbm, 241, rfl⟩
abbrev main_cst_40 : Ref sig .tc := ⟨.hbm, 242, rfl⟩
abbrev main_v190 : Ref sig .tc := ⟨.hbm, 243, rfl⟩
abbrev main_call8_v0 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_v196 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_v202 : Ref sig .tc := ⟨.hbm, 256, rfl⟩
abbrev main_v203 : Ref sig .tc := ⟨.hbm, 257, rfl⟩
abbrev main_c_41 : Ref sig .tc := ⟨.hbm, 258, rfl⟩
abbrev main_v204 : Ref sig .tc := ⟨.hbm, 259, rfl⟩
abbrev main_v205 : Ref sig .tc := ⟨.hbm, 260, rfl⟩
abbrev main_cst_42 : Ref sig .tc := ⟨.hbm, 261, rfl⟩
abbrev main_v206 : Ref sig .tc := ⟨.hbm, 262, rfl⟩
abbrev main_v207 : Ref sig .tc := ⟨.hbm, 263, rfl⟩
abbrev main_v208 : Ref sig .tc := ⟨.hbm, 264, rfl⟩
abbrev main_cst_43 : Ref sig .tc := ⟨.hbm, 265, rfl⟩
abbrev main_v209 : Ref sig .tc := ⟨.hbm, 266, rfl⟩
abbrev main_cst_44 : Ref sig .tc := ⟨.hbm, 267, rfl⟩
abbrev main_v210 : Ref sig .tc := ⟨.hbm, 268, rfl⟩
abbrev main_call9_v0 : Ref sig .tc := ⟨.hbm, 269, rfl⟩
abbrev main_v211 : Ref sig .tc := ⟨.hbm, 270, rfl⟩
abbrev main_v212 : Ref sig .tc := ⟨.hbm, 271, rfl⟩
abbrev main_v213 : Ref sig .tc := ⟨.hbm, 272, rfl⟩
abbrev main_cst_45 : Ref sig .tc := ⟨.hbm, 273, rfl⟩
abbrev main_v214 : Ref sig .tc := ⟨.hbm, 274, rfl⟩
abbrev main_cst_46 : Ref sig .tc := ⟨.hbm, 275, rfl⟩
abbrev main_v215 : Ref sig .tc := ⟨.hbm, 276, rfl⟩
abbrev main_v216 : Ref sig .tc := ⟨.hbm, 277, rfl⟩
abbrev main_v217 : Ref sig .tc := ⟨.hbm, 278, rfl⟩
abbrev main_v218 : Ref sig .tc := ⟨.hbm, 279, rfl⟩
abbrev main_cst_47 : Ref sig .tc := ⟨.hbm, 280, rfl⟩
abbrev main_v219 : Ref sig .tc := ⟨.hbm, 281, rfl⟩
abbrev main_v220 : Ref sig .tc := ⟨.hbm, 282, rfl⟩
abbrev main_v221 : Ref sig .tc := ⟨.hbm, 283, rfl⟩
abbrev main_v222 : Ref sig .tc := ⟨.hbm, 284, rfl⟩
abbrev main_v223 : Ref sig .tc := ⟨.hbm, 285, rfl⟩
abbrev main_v224 : Ref sig .tc := ⟨.hbm, 286, rfl⟩
abbrev main_v225 : Ref sig .tc := ⟨.hbm, 287, rfl⟩
abbrev main_v226 : Ref sig .tc := ⟨.hbm, 288, rfl⟩
abbrev main_v227 : Ref sig .tc := ⟨.hbm, 289, rfl⟩
abbrev main_v228 : Ref sig .tc := ⟨.hbm, 290, rfl⟩
abbrev main_cst_48 : Ref sig .tc := ⟨.hbm, 291, rfl⟩
abbrev main_v229 : Ref sig .tc := ⟨.hbm, 292, rfl⟩
abbrev main_cst_49 : Ref sig .tc := ⟨.hbm, 293, rfl⟩
abbrev main_v230 : Ref sig .tc := ⟨.hbm, 294, rfl⟩

abbrev nD : Nat := 1
abbrev τ : Topo := Topo.v7x

variable {F : FTy → Type} [FloatOps F]
-- ==== Proof.Trip.lean ====
/- One trip of the kernel's loop over the row chunks of a block, and all its trips.

   A trip reads 128 rows of logits and of labels, works out the gradient norm and the loss of each entry, and adds to
   each of nineteen 8 × 80 accumulators the 128 rows of one quantity folded to 8: for each inner edge the indicator of
   "at or above the edge", the loss where at or above it, and the loss everywhere. -/
module

public import proofs.«01_k».proof.Proof.Gen.KernelIdeal.Frame
public import Idealize.ShloMosaic.Lib.Pipeline.RowLoads
public import Idealize.ShloMosaic.Lib.Pipeline.ValueKit.Tiles
public import Idealize.ShloMosaic.PureOps.Ideal.Laws

@[expose] public section

set_option maxRecDepth 16384

noncomputable section

namespace Cert.Ghm

open Idealize.ShloMosaic Idealize.ShloMosaic.TcCoe Idealize.ShloMosaic.ValueIdx Idealize.SL.Sem
open Cert.KernelIdeal Cert.KernelIdeal.Gen

/-- The inner edges as the kernel names them: edge `b` is the lower edge of bin `b + 1`. -/
def edgeK : ℕ → EReal
  | 0 => Named.named (F := Ideal) κ "edge1" (φ := .f32) 0x3DCCCCCD#32
  | 1 => Named.named (F := Ideal) κ "edge2" (φ := .f32) 0x3E4CCCCD#32
  | 2 => Named.named (F := Ideal) κ "edge3" (φ := .f32) 0x3E99999A#32
  | 3 => Named.named (F := Ideal) κ "edge4" (φ := .f32) 0x3ECCCCCD#32
  | 4 => Named.named (F := Ideal) κ "edge5" (φ := .f32) 0x3F000000#32
  | 5 => Named.named (F := Ideal) κ "edge6" (φ := .f32) 0x3F19999A#32
  | 6 => Named.named (F := Ideal) κ "edge7" (φ := .f32) 0x3F333333#32
  | 7 => Named.named (F := Ideal) κ "edge8" (φ := .f32) 0x3F4CCCCD#32
  | _ => Named.named (F := Ideal) κ "edge9" (φ := .f32) 0x3F666666#32

/-- The exponential of minus the size of a logit. -/
def expK (p : EReal) : EReal := Ideal.exp (Ideal.ofBits .f32 0x00000000#32 - max p (-p))

/-- The kernel's gradient norm of an entry: the distance of the sigmoid of the logit from the label. -/
def gradK (p t : EReal) : EReal :=
  let d := Ideal.div (Scalar.select (Ideal.cmp .oge p (Ideal.ofBits .f32 0x00000000#32)) (Ideal.ofBits .f32 0x3F800000#32) (expK p))
      (Ideal.ofBits .f32 0x3F800000#32 + expK p) - t
  max d (-d)

/-- The kernel's loss of an entry. -/
def lossK (p t : EReal) : EReal :=
  (max p (Ideal.ofBits .f32 0x00000000#32) - p * t) + Ideal.log (Ideal.ofBits .f32 0x3F800000#32 + expK p)

/-- One where the gradient norm is at or above edge `b`, zero elsewhere. -/
def cntK (b : ℕ) (p t : EReal) : EReal :=
  Scalar.select (Ideal.cmp .oge (gradK p t) (edgeK b)) (Ideal.ofBits .f32 0x3F800000#32) (Ideal.ofBits .f32 0x00000000#32)

/-- The loss where the gradient norm is at or above edge `b`, zero elsewhere. -/
def sumK (b : ℕ) (p t : EReal) : EReal :=
  Scalar.select (Ideal.cmp .oge (gradK p t) (edgeK b)) (lossK p t) (Ideal.ofBits .f32 0x00000000#32)

/-- 128 rows folded to 8: halves added four times. -/
def fold8 (x : FVec Ideal S128x80 .f32) : FVec Ideal S8x80 .f32 :=
  let a := addf (extractStridedSlice S64x80 ![0, 0] x slices_S128x80_o0_0_S64x80)
    (extractStridedSlice S64x80 ![64, 0] x slices_S128x80_o64_0_S64x80)
  let b := addf (extractStridedSlice S32x80 ![0, 0] a slices_S64x80_o0_0_S32x80)
    (extractStridedSlice S32x80 ![32, 0] a slices_S64x80_o32_0_S32x80)
  let c := addf (extractStridedSlice S16x80 ![0, 0] b slices_S32x80_o0_0_S16x80)
    (extractStridedSlice S16x80 ![16, 0] b slices_S32x80_o16_0_S16x80)
  addf (extractStridedSlice S8x80 ![0, 0] c slices_S16x80_o0_0_S8x80)
    (extractStridedSlice S8x80 ![8, 0] c slices_S16x80_o8_0_S8x80)

/-- The folded rows at an index are the sum of the sixteen rows congruent to it. -/
theorem fold8_apply (x : FVec Ideal S128x80 .f32) (r : Fin 8) (l : Fin 80) :
    fold8 x (ix2 r l) = ∑ q : Fin 16, x (ix2 (⟨8 * q.val + r.val, by omega⟩ : Fin 128) l) := by
  unfold fold8
  dsimp only [addf]
  rw [RowLoads.extractStridedSlice_rows_eq_rowsFrom _ 0 (by norm_num) slices_S128x80_o0_0_S64x80,
    RowLoads.extractStridedSlice_rows_eq_rowsFrom _ 64 (by norm_num) slices_S128x80_o64_0_S64x80,
    RowLoads.extractStridedSlice_rows_eq_rowsFrom _ 0 (by norm_num) slices_S64x80_o0_0_S32x80,
    RowLoads.extractStridedSlice_rows_eq_rowsFrom _ 32 (by norm_num) slices_S64x80_o32_0_S32x80,
    RowLoads.extractStridedSlice_rows_eq_rowsFrom _ 0 (by norm_num) slices_S32x80_o0_0_S16x80,
    RowLoads.extractStridedSlice_rows_eq_rowsFrom _ 16 (by norm_num) slices_S32x80_o16_0_S16x80,
    RowLoads.extractStridedSlice_rows_eq_rowsFrom _ 0 (by norm_num) slices_S16x80_o0_0_S8x80,
    RowLoads.extractStridedSlice_rows_eq_rowsFrom _ 8 (by norm_num) slices_S16x80_o8_0_S8x80]
  simp only [addf, RowLoads.rowsFrom, ix2, Ideal.addf_def, Fin.sum_univ_succ, Fin.sum_univ_zero, Fin.val_succ,
    Fin.val_zero, Nat.zero_add, Nat.mul_zero, Nat.reduceMul, Nat.reduceAdd, ← Nat.add_assoc, add_zero]
  abel

/-- The carried values of the loop, from the nine counts, the nine sums and the total. -/
abbrev carry (C S : ℕ → FVec Ideal S8x80 .f32) (T : FVec Ideal S8x80 .f32) :=
  (C 0, C 1, C 2, C 3, C 4, C 5, C 6, C 7, C 8, S 0, S 1, S 2, S 3, S 4, S 5, S 6, S 7, S 8, T)

section Loop

variable (𝒱 : Variants) (c : Dev nD) (bd : Option 𝒱.V) (i : grid0.Coords)
  (arg1 : Memref sig .tc .vmem S16384x80 .f32) (harg1 : arg1.IsWhole)
  (arg2 : Memref sig .tc .vmem S16384x80 .f32) (harg2 : arg2.IsWhole)
  (arg3 : Memref sig .tc .smem S1 .f32) (harg3 : arg3.IsWhole)
  (arg4 : Memref sig .tc .vmem S72x80 .f32) (harg4 : arg4.IsWhole)
  (arg5 : Memref sig .tc .vmem S80x80 .f32) (harg5 : arg5.IsWhole)
  (X1 : BufTy.Contents (Elt Ideal) arg1.view.ty) (X2 : BufTy.Contents (Elt Ideal) arg2.view.ty)

/-- The 128 rows trip `k` reads of a block. -/
abbrev chunk (arg : Memref sig .tc .vmem S16384x80 .f32) (X : BufTy.Contents (Elt Ideal) arg.view.ty)
    (k : Fin k0_t1_loop.trips) : Vec Ideal S128x80 .f32 :=
  View.readAt (Elt Ideal) arg.view (Rect.unit (s := S16384x80) (k0_off1 k) S128x80.size (k0_off1_inb k)).toLoadRect X

/-- One trip adds to each accumulator its own quantity of the trip's rows, folded. -/
theorem trip_eq (k : Fin k0_t1_loop.trips) (C S : ℕ → FVec Ideal S8x80 .f32) (T : FVec Ideal S8x80 .f32) :
    tripR_k0_t1 (F := Ideal) 𝒱 c bd i arg1 harg1 arg2 harg2 arg3 harg3 arg4 harg4 arg5 harg5 X1 X2 k (carry C S T)
      = carry (fun b => addf (C b) (fold8 fun j => cntK b (chunk arg1 X1 k j) (chunk arg2 X2 k j)))
          (fun b => addf (S b) (fold8 fun j => sumK b (chunk arg1 X1 k j) (chunk arg2 X2 k j)))
          (addf T (fold8 fun j => lossK (chunk arg1 X1 k j) (chunk arg2 X2 k j))) := by
  unfold tripR_k0_t1 trip_k0_t1
  rfl

/-- What the first `k` trips add of a quantity `f`: over the trips and the sixteen rows of a trip congruent to the
    accumulator's row. -/
def gather (x0 x1 : Vec Ideal S16384x80 .f32) (f : EReal → EReal → EReal) (k : ℕ) (r : Fin 8) (l : Fin 80) : EReal :=
  ∑ j ∈ Finset.range k, ∑ q : Fin 16,
    f (x0 (ix2 (Fin.ofNat 16384 (128 * j + 8 * q.val + r.val)) l)) (x1 (ix2 (Fin.ofNat 16384 (128 * j + 8 * q.val + r.val)) l))

/-- The same as an 8 × 80 array. -/
def gatherV (x0 x1 : Vec Ideal S16384x80 .f32) (f : EReal → EReal → EReal) (k : ℕ) : FVec Ideal S8x80 .f32 :=
  fun ι => gather x0 x1 f k (ι 0) (ι 1)

/-- A trip's rows of a block are the block's rows from 128 times the trip on. -/
theorem chunk_apply (arg : Memref sig .tc .vmem S16384x80 .f32) (harg : arg.IsWhole) (x : Vec Ideal S16384x80 .f32)
    (k : Fin k0_t1_loop.trips) (r : Fin 128) (l : Fin 80) :
    chunk arg (harg.unread x) k (ix2 r l) = x (ix2 (Fin.ofNat 16384 (128 * k.val + r.val)) l) := by
  unfold chunk
  rw [View.readAt_eq_ld, harg.read_unread]
  have hk : k.val < 128 := lt_of_lt_of_eq k.isLt (by decide)
  have h0 := k0_off1_eq k
  refine View.ld_unit_apply_of _ _ _ _ _ _ fun a => ?_
  refine Eq.trans ?_ (congrArg (· + _) (congrFun h0 a).symm)
  fin_cases a
  · show (128 * k.val + r.val) % 16384 = 128 * k.val + r.val
    omega
  · show l.val = 0 + l.val
    omega

/-- The carried values before trip `k`: the inital zeros and what the trips before gathered. -/
theorem st_eq (x0 x1 : Vec Ideal S16384x80 .f32) (k : ℕ) (hk : k ≤ 128) :
    st_k0_t1 (F := Ideal) 𝒱 c bd i arg1 harg1 arg2 harg2 arg3 harg3 arg4 harg4 arg5 harg5 (harg1.unread x0)
        (harg2.unread x1)
        (carry (fun _ => k0_pay85 (F := Ideal)) (fun _ => k0_pay85 (F := Ideal)) (k0_pay85 (F := Ideal))) k
      = carry (fun b => gatherV x0 x1 (cntK b) k) (fun b => gatherV x0 x1 (sumK b) k) (gatherV x0 x1 lossK k) := by
  have step : ∀ (f : EReal → EReal → EReal) (k : Fin k0_t1_loop.trips),
      addf (gatherV x0 x1 f k.val) (fold8 fun j => f (chunk arg1 (harg1.unread x0) k j)
        (chunk arg2 (harg2.unread x1) k j)) = gatherV x0 x1 f (k.val + 1) := by
    intro f k
    funext ι
    show gather x0 x1 f k.val (ι 0) (ι 1) + fold8 _ ι = gather x0 x1 f (k.val + 1) (ι 0) (ι 1)
    unfold gather
    rw [Finset.sum_range_succ]
    congr 1
    obtain ⟨r, l, rfl⟩ : ∃ (r : Fin 8) (l : Fin 80), ι = ix2 r l := ⟨ι 0, ι 1, (by funext a; fin_cases a <;> rfl)⟩
    rw [fold8_apply]
    refine Finset.sum_congr rfl fun q _ => ?_
    rw [chunk_apply, chunk_apply]
    simp only [← Nat.add_assoc]
  induction k with
  | zero =>
    have z : ∀ f, gatherV x0 x1 f 0 = k0_pay85 (F := Ideal) := by
      intro f
      funext ι
      show (0 : EReal) = Ideal.ofBits .f32 0x00000000#32
      exact Ideal.ofBits_zero_f32.symm
    simp only [z]
    rw [st_k0_t1_zero]
  | succ k ih =>
    have hk' : k < k0_t1_loop.trips := lt_of_lt_of_eq (show k < 128 by omega) (by decide)
    have h := st_k0_t1_succ (F := Ideal) 𝒱 c bd i arg1 harg1 arg2 harg2 arg3 harg3 arg4 harg4 arg5 harg5
      (harg1.unread x0) (harg2.unread x1)
        (carry (fun _ => k0_pay85 (F := Ideal)) (fun _ => k0_pay85 (F := Ideal)) (k0_pay85 (F := Ideal))) ⟨k, hk'⟩
    rw [ih (by omega)] at h
    rw [h, trip_eq]
    have hc := fun b => step (cntK b) ⟨k, hk'⟩
    have hs := fun b => step (sumK b) ⟨k, hk'⟩
    have ht := step lossK ⟨k, hk'⟩
    dsimp only at hc hs ht ⊢
    simp only [hc, hs, ht]

end Loop

end Cert.Ghm

end
-- ==== Proof.Bands.lean ====
/- What one grid point leaves in the two scratch arrays.

   The scratch arrays are stacks of 8 × 80 bands, one per level: each grid point adds to every band what its block
   gathered of the band's quantity. The first point starts from zeros. -/
module

public import proofs.«01_k».proof.Proof.Trip
public import Idealize.ShloMosaic.Lib.Pipeline.CanonAppend

@[expose] public section

set_option maxRecDepth 16384

noncomputable section

namespace Cert.Ghm

open Idealize.ShloMosaic Idealize.ShloMosaic.TcCoe Idealize.ShloMosaic.ValueIdx Idealize.ShloMosaic.Tactic Idealize.SL.Sem
open Cert.KernelIdeal Cert.KernelIdeal.Gen

/-- The quantity summed by level: the loss everywhere, then the loss at or above each inner edge. -/
def lossLevel : ℕ → EReal → EReal → EReal
  | 0 => lossK
  | b + 1 => sumK b

/-- A stack of bands with what one block gathers added: at row `y` the quantity is that of band `y / 8`. -/
def grown {n : ℕ} (X : (⟨2, ![n, 80]⟩ : Shape).Idx → EReal) (x0 x1 : Vec Ideal S16384x80 .f32)
    (f : ℕ → EReal → EReal → EReal) : (⟨2, ![n, 80]⟩ : Shape).Idx → EReal :=
  fun y => X y + gather x0 x1 (f ((y 0).val / 8)) 128 (Fin.ofNat 8 (y 0).val) (y 1)

/-- A band's store writes the grown stack at the band's rows. -/
theorem band {n : ℕ} (X : (⟨2, ![n, 80]⟩ : Shape).Idx → EReal) (x0 x1 : Vec Ideal S16384x80 .f32)
    (f : ℕ → EReal → EReal → EReal) (b o : ℕ) (ho : o = 8 * b)
    (inb : ∀ a, (![o, 0] : Fin 2 → Nat) a + S8x80.size a ≤ (⟨2, ![n, 80]⟩ : Shape).size a)
    (h : S8x80.ShapeCasts S8x80) (V : FVec Ideal S8x80 .f32)
    (hV : V = fun j => X ((Rect.unit (s := (⟨2, ![n, 80]⟩ : Shape)) ![o, 0] S8x80.size inb).emb j))
    (x : S8x80.Idx) :
    shapeCast S8x80 (addf V (gatherV x0 x1 (f b) 128)) h x
      = grown X x0 x1 f ((Rect.unit (s := (⟨2, ![n, 80]⟩ : Shape)) ![o, 0] S8x80.size inb).emb x) := by
  rw [shapeCast_self, hV]
  subst ho
  have h0 : (((Rect.unit (s := (⟨2, ![n, 80]⟩ : Shape)) ![8 * b, 0] S8x80.size inb).emb x) 0).val = 8 * b + (x 0).val := by
    show 8 * b + 1 * (x 0).val = _
    omega
  have hx : (x 0).val < 8 := (x 0).isLt
  show X _ + gather x0 x1 (f b) 128 (x 0) (x 1) = X _ + gather x0 x1 _ 128 _ _
  rw [h0]
  congr 2
  · congr 1; omega
  · apply Fin.ext
    show (x 0).val = (8 * b + (x 0).val) % 8
    omega
  · apply Fin.ext
    show (x 1).val = 0 + 1 * (x 1).val
    omega

/-- A load of a band of the carried stack reads the stack at the band's rows. -/
theorem load_band {n : ℕ} (arg : Memref sig .tc .vmem (⟨2, ![n, 80]⟩ : Shape) .f32) (harg : arg.IsWhole)
    (X : Vec Ideal (⟨2, ![n, 80]⟩ : Shape) .f32) (R : Rect (⟨2, ![n, 80]⟩ : Shape)) :
    View.readAt (Elt Ideal) arg.view R.toLoadRect (harg.unread X) = fun j => X (R.emb j) := by
  rw [View.readAt_eq_ld, harg.read_unread]
  rfl

/-- The number of trips of the loop. -/
theorem trips_eq : Scf.trips k0_t1_loop.lb k0_t1_loop.ub k0_t1_loop.st = 128 := by decide

/-- A whole zero fill of the stack, read by a band's load, is zero. -/
theorem load_zeros {n : ℕ} (v : View sig .tc .vmem (⟨2, ![n, 80]⟩ : Shape) .f32)
    (inb : ∀ a, (![0, 0] : Fin 2 → Nat) a + (⟨2, ![n, 80]⟩ : Shape).size a ≤ (⟨2, ![n, 80]⟩ : Shape).size a)
    (z : Vec Ideal (⟨2, ![n, 80]⟩ : Shape) .f32) (hz : z = fun _ => (0 : EReal)) (R : Rect (⟨2, ![n, 80]⟩ : Shape)) :
    v.readCov [(⟨Rect.unit (s := (⟨2, ![n, 80]⟩ : Shape)) ![0, 0] (⟨2, ![n, 80]⟩ : Shape).size inb, z⟩ :
        View.Piece (Elt Ideal) (⟨2, ![n, 80]⟩ : Shape) .f32)] R.toLoadRect
      = fun _ => (0 : EReal) := by
  rw [View.readCov_eq_canon', View.canon_unit_zero (by funext a; fin_cases a <;> rfl), hz]

/-- A band's load passes over a newer store of another band. -/
theorem load_pass {n : ℕ} (v : View sig .tc .vmem (⟨2, ![n, 80]⟩ : Shape) .f32) (o o' : ℕ) (h : o + 8 ≤ o' ∨ o' + 8 ≤ o)
    (z : Vec Ideal S8x80 .f32) (L : List (View.Piece (Elt Ideal) (⟨2, ![n, 80]⟩ : Shape) .f32))
    (inb : ∀ a, (![o, 0] : Fin 2 → Nat) a + ![8, 80] a ≤ (⟨2, ![n, 80]⟩ : Shape).size a)
    (inb' : ∀ a, (![o', 0] : Fin 2 → Nat) a + ![8, 80] a ≤ (⟨2, ![n, 80]⟩ : Shape).size a) :
    v.readCov ((⟨Rect.unit (s := (⟨2, ![n, 80]⟩ : Shape)) ![o, 0] ![8, 80] inb, z⟩ :
        View.Piece (Elt Ideal) (⟨2, ![n, 80]⟩ : Shape) .f32) :: L)
        (Rect.unit (s := (⟨2, ![n, 80]⟩ : Shape)) ![o', 0] ![8, 80] inb').toLoadRect
      = v.readCov L (Rect.unit (s := (⟨2, ![n, 80]⟩ : Shape)) ![o', 0] ![8, 80] inb').toLoadRect :=
  View.readCov_cons_of_rows_disjoint v o o' h z L inb inb'

/-- The stores of a stack, newest first, leave `G` on the first `k` rows. -/
def Agrees {n : ℕ} (G : (⟨2, ![n, 80]⟩ : Shape).Idx → EReal)
    (L : List (View.Piece (Elt Ideal) (⟨2, ![n, 80]⟩ : Shape) .f32)) (k : ℕ) : Prop :=
  ∀ y : (⟨2, ![n, 80]⟩ : Shape).Idx, (y 0).val < k → View.canon L y = G y

theorem agrees_zero {n : ℕ} (G : (⟨2, ![n, 80]⟩ : Shape).Idx → EReal)
    (L : List (View.Piece (Elt Ideal) (⟨2, ![n, 80]⟩ : Shape) .f32)) : Agrees G L 0 :=
  fun _ h => absurd h (Nat.not_lt_zero _)

/-- One more band that holds `G` extends the rows by eight. -/
theorem Agrees.cons {n : ℕ} {G : (⟨2, ![n, 80]⟩ : Shape).Idx → EReal}
    {L : List (View.Piece (Elt Ideal) (⟨2, ![n, 80]⟩ : Shape) .f32)} {o : ℕ} (h : Agrees G L o)
    {inb : ∀ a, (![o, 0] : Fin 2 → Nat) a + S8x80.size a ≤ (⟨2, ![n, 80]⟩ : Shape).size a} {z : Vec Ideal S8x80 .f32}
    (hz : ∀ x : S8x80.Idx, z x = G ((Rect.unit (s := (⟨2, ![n, 80]⟩ : Shape)) ![o, 0] S8x80.size inb).emb x)) :
    Agrees G ((⟨Rect.unit (s := (⟨2, ![n, 80]⟩ : Shape)) ![o, 0] S8x80.size inb, z⟩ :
        View.Piece (Elt Ideal) (⟨2, ![n, 80]⟩ : Shape) .f32) :: L) (o + 8) := by
  intro y hy
  by_cases hlt : (y 0).val < o
  · rw [View.canon_cons_of_not_mem _ _ fun hm => ?_]
    · exact h y hlt
    · have h0 : o ≤ (y 0).val := ((Rect.mem_set_unit (inb := inb)).mp hm 0).1
      omega
  · have h1 : (y 1).val < 80 := (y 1).isLt
    have hm : y ∈ (Rect.unit (s := (⟨2, ![n, 80]⟩ : Shape)) ![o, 0] S8x80.size inb).set := by
      refine (Rect.mem_set_unit (inb := inb)).mpr ?_
      intro a
      fin_cases a
      · exact ⟨by show o ≤ (y 0).val; omega, by show (y 0).val < o + 8; omega⟩
      · exact ⟨Nat.zero_le _, by show (y 1).val < 0 + 80; omega⟩
    obtain ⟨x, rfl⟩ := (Rect.unit (s := (⟨2, ![n, 80]⟩ : Shape)) ![o, 0] S8x80.size inb).exists_idx_of_mem hm
    exact (View.canon_cons_emb _ _ _ _).trans (hz x)

/-- A grid point between the first and the last leaves the carried stack of counts grown. -/
theorem cnt_B (c : Dev nD) (i : grid0.Coords) (arg1 : Memref sig .tc .vmem S16384x80 .f32) (harg1 : arg1.IsWhole) (arg2 : Memref sig .tc .vmem S16384x80 .f32) (harg2 : arg2.IsWhole)
    (arg3 : Memref sig .tc .smem S1 .f32) (harg3 : arg3.IsWhole) (arg4 : Memref sig .tc .vmem S72x80 .f32) (harg4 : arg4.IsWhole)
    (arg5 : Memref sig .tc .vmem S80x80 .f32) (harg5 : arg5.IsWhole) (hc0 : ¬cond0_0 i) (hc1 : ¬cond0_1 i)
    (x0 x1 : Vec Ideal S16384x80 .f32) (xs0 : Vec Ideal S72x80 .f32) (xs1 : Vec Ideal S80x80 .f32) :
    sout0_B_0 (F := Ideal) c i arg1 harg1 arg2 harg2 arg3 harg3 arg4 harg4 arg5 harg5 hc0 hc1 x0 x1 xs0 xs1
      = grown xs0 x0 x1 cntK := by
  have hcov := scover0_B_0 (F := Ideal) c i arg1 harg1 arg2 harg2 arg3 harg3 arg4 harg4 arg5 harg5 hc0 hc1 x0 x1 xs0 xs1
  unfold sout0_B_0
  rw [View.read_writes_eq_canon _ _ _ hcov]
  funext y
  clear hcov
  unfold kernelRun0_B
  dsimp only
  sl_unfold_words
  have hst := st_eq Variants.none c none i arg1 harg1 arg2 harg2 arg3 harg3 arg4 harg4 arg5 harg5 x0 x1 128 le_rfl
  dsimp only [carry] at hst
  rw [trips_eq, hst]
  have grow := band xs0 x0 x1 cntK
  exact (agrees_zero _ _
    |>.cons (grow 0 0 rfl _ _ _ (load_band _ _ _ _))
    |>.cons (grow 1 8 rfl _ _ _ (load_band _ _ _ _))
    |>.cons (grow 2 16 rfl _ _ _ (load_band _ _ _ _))
    |>.cons (grow 3 24 rfl _ _ _ (load_band _ _ _ _))
    |>.cons (grow 4 32 rfl _ _ _ (load_band _ _ _ _))
    |>.cons (grow 5 40 rfl _ _ _ (load_band _ _ _ _))
    |>.cons (grow 6 48 rfl _ _ _ (load_band _ _ _ _))
    |>.cons (grow 7 56 rfl _ _ _ (load_band _ _ _ _))
    |>.cons (grow 8 64 rfl _ _ _ (load_band _ _ _ _))) y (y 0).isLt

/-- A grid point between the first and the last leaves the carried stack of sums grown. -/
theorem sum_B (c : Dev nD) (i : grid0.Coords) (arg1 : Memref sig .tc .vmem S16384x80 .f32) (harg1 : arg1.IsWhole) (arg2 : Memref sig .tc .vmem S16384x80 .f32) (harg2 : arg2.IsWhole)
    (arg3 : Memref sig .tc .smem S1 .f32) (harg3 : arg3.IsWhole) (arg4 : Memref sig .tc .vmem S72x80 .f32) (harg4 : arg4.IsWhole)
    (arg5 : Memref sig .tc .vmem S80x80 .f32) (harg5 : arg5.IsWhole) (hc0 : ¬cond0_0 i) (hc1 : ¬cond0_1 i)
    (x0 x1 : Vec Ideal S16384x80 .f32) (xs0 : Vec Ideal S72x80 .f32) (xs1 : Vec Ideal S80x80 .f32) :
    sout0_B_1 (F := Ideal) c i arg1 harg1 arg2 harg2 arg3 harg3 arg4 harg4 arg5 harg5 hc0 hc1 x0 x1 xs0 xs1
      = grown xs1 x0 x1 lossLevel := by
  have hcov := scover0_B_1 (F := Ideal) c i arg1 harg1 arg2 harg2 arg3 harg3 arg4 harg4 arg5 harg5 hc0 hc1 x0 x1 xs0 xs1
  unfold sout0_B_1
  rw [View.read_writes_eq_canon _ _ _ hcov]
  funext y
  clear hcov
  unfold kernelRun0_B
  dsimp only
  sl_unfold_words
  have hst := st_eq Variants.none c none i arg1 harg1 arg2 harg2 arg3 harg3 arg4 harg4 arg5 harg5 x0 x1 128 le_rfl
  dsimp only [carry] at hst
  rw [trips_eq, hst]
  have grow := band xs1 x0 x1 lossLevel
  exact (agrees_zero _ _
    |>.cons (grow 0 0 rfl _ _ _ (load_band _ _ _ _))
    |>.cons (grow 1 8 rfl _ _ _ (load_band _ _ _ _))
    |>.cons (grow 2 16 rfl _ _ _ (load_band _ _ _ _))
    |>.cons (grow 3 24 rfl _ _ _ (load_band _ _ _ _))
    |>.cons (grow 4 32 rfl _ _ _ (load_band _ _ _ _))
    |>.cons (grow 5 40 rfl _ _ _ (load_band _ _ _ _))
    |>.cons (grow 6 48 rfl _ _ _ (load_band _ _ _ _))
    |>.cons (grow 7 56 rfl _ _ _ (load_band _ _ _ _))
    |>.cons (grow 8 64 rfl _ _ _ (load_band _ _ _ _))
    |>.cons (grow 9 72 rfl _ _ _ (load_band _ _ _ _))) y (y 0).isLt

/-- The last grid point leaves the carried stack of counts grown. -/
theorem cnt_C (c : Dev nD) (i : grid0.Coords) (arg1 : Memref sig .tc .vmem S16384x80 .f32) (harg1 : arg1.IsWhole) (arg2 : Memref sig .tc .vmem S16384x80 .f32) (harg2 : arg2.IsWhole)
    (arg3 : Memref sig .tc .smem S1 .f32) (harg3 : arg3.IsWhole) (arg4 : Memref sig .tc .vmem S72x80 .f32) (harg4 : arg4.IsWhole)
    (arg5 : Memref sig .tc .vmem S80x80 .f32) (harg5 : arg5.IsWhole) (hc0 : ¬cond0_0 i) (hc1 : cond0_1 i)
    (x0 x1 : Vec Ideal S16384x80 .f32) (xs0 : Vec Ideal S72x80 .f32) (xs1 : Vec Ideal S80x80 .f32) :
    sout0_C_0 (F := Ideal) c i arg1 harg1 arg2 harg2 arg3 harg3 arg4 harg4 arg5 harg5 hc0 hc1 x0 x1 xs0 xs1
      = grown xs0 x0 x1 cntK := by
  have hcov := scover0_C_0 (F := Ideal) c i arg1 harg1 arg2 harg2 arg3 harg3 arg4 harg4 arg5 harg5 hc0 hc1 x0 x1 xs0 xs1
  unfold sout0_C_0
  rw [View.read_writes_eq_canon _ _ _ hcov]
  funext y
  clear hcov
  unfold kernelRun0_C
  dsimp only
  sl_unfold_words
  have hst := st_eq Variants.none c none i arg1 harg1 arg2 harg2 arg3 harg3 arg4 harg4 arg5 harg5 x0 x1 128 le_rfl
  dsimp only [carry] at hst
  rw [trips_eq, hst]
  have grow := band xs0 x0 x1 cntK
  exact (agrees_zero _ _
    |>.cons (grow 0 0 rfl _ _ _ (load_band _ _ _ _))
    |>.cons (grow 1 8 rfl _ _ _ (load_band _ _ _ _))
    |>.cons (grow 2 16 rfl _ _ _ (load_band _ _ _ _))
    |>.cons (grow 3 24 rfl _ _ _ (load_band _ _ _ _))
    |>.cons (grow 4 32 rfl _ _ _ (load_band _ _ _ _))
    |>.cons (grow 5 40 rfl _ _ _ (load_band _ _ _ _))
    |>.cons (grow 6 48 rfl _ _ _ (load_band _ _ _ _))
    |>.cons (grow 7 56 rfl _ _ _ (load_band _ _ _ _))
    |>.cons (grow 8 64 rfl _ _ _ (load_band _ _ _ _))) y (y 0).isLt

/-- The last grid point leaves the carried stack of sums grown. -/
theorem sum_C (c : Dev nD) (i : grid0.Coords) (arg1 : Memref sig .tc .vmem S16384x80 .f32) (harg1 : arg1.IsWhole) (arg2 : Memref sig .tc .vmem S16384x80 .f32) (harg2 : arg2.IsWhole)
    (arg3 : Memref sig .tc .smem S1 .f32) (harg3 : arg3.IsWhole) (arg4 : Memref sig .tc .vmem S72x80 .f32) (harg4 : arg4.IsWhole)
    (arg5 : Memref sig .tc .vmem S80x80 .f32) (harg5 : arg5.IsWhole) (hc0 : ¬cond0_0 i) (hc1 : cond0_1 i)
    (x0 x1 : Vec Ideal S16384x80 .f32) (xs0 : Vec Ideal S72x80 .f32) (xs1 : Vec Ideal S80x80 .f32) :
    sout0_C_1 (F := Ideal) c i arg1 harg1 arg2 harg2 arg3 harg3 arg4 harg4 arg5 harg5 hc0 hc1 x0 x1 xs0 xs1
      = grown xs1 x0 x1 lossLevel := by
  have hcov := scover0_C_1 (F := Ideal) c i arg1 harg1 arg2 harg2 arg3 harg3 arg4 harg4 arg5 harg5 hc0 hc1 x0 x1 xs0 xs1
  unfold sout0_C_1
  rw [View.read_writes_eq_canon _ _ _ hcov]
  funext y
  clear hcov
  unfold kernelRun0_C
  dsimp only
  sl_unfold_words
  have hst := st_eq Variants.none c none i arg1 harg1 arg2 harg2 arg3 harg3 arg4 harg4 arg5 harg5 x0 x1 128 le_rfl
  dsimp only [carry] at hst
  rw [trips_eq, hst]
  have grow := band xs1 x0 x1 lossLevel
  exact (agrees_zero _ _
    |>.cons (grow 0 0 rfl _ _ _ (load_band _ _ _ _))
    |>.cons (grow 1 8 rfl _ _ _ (load_band _ _ _ _))
    |>.cons (grow 2 16 rfl _ _ _ (load_band _ _ _ _))
    |>.cons (grow 3 24 rfl _ _ _ (load_band _ _ _ _))
    |>.cons (grow 4 32 rfl _ _ _ (load_band _ _ _ _))
    |>.cons (grow 5 40 rfl _ _ _ (load_band _ _ _ _))
    |>.cons (grow 6 48 rfl _ _ _ (load_band _ _ _ _))
    |>.cons (grow 7 56 rfl _ _ _ (load_band _ _ _ _))
    |>.cons (grow 8 64 rfl _ _ _ (load_band _ _ _ _))
    |>.cons (grow 9 72 rfl _ _ _ (load_band _ _ _ _))) y (y 0).isLt

/-- The first grid point leaves the stack of counts grown from zeros. -/
theorem cnt_A (c : Dev nD) (i : grid0.Coords) (arg1 : Memref sig .tc .vmem S16384x80 .f32) (harg1 : arg1.IsWhole) (arg2 : Memref sig .tc .vmem S16384x80 .f32) (harg2 : arg2.IsWhole)
    (arg3 : Memref sig .tc .smem S1 .f32) (harg3 : arg3.IsWhole) (arg4 : Memref sig .tc .vmem S72x80 .f32) (harg4 : arg4.IsWhole)
    (arg5 : Memref sig .tc .vmem S80x80 .f32) (harg5 : arg5.IsWhole) (hc0 : cond0_0 i) (hc1 : ¬cond0_1 i)
    (x0 x1 : Vec Ideal S16384x80 .f32) :
    sout0_A_0 (F := Ideal) c i arg1 harg1 arg2 harg2 arg3 harg3 arg4 harg4 arg5 harg5 hc0 hc1 x0 x1
      = grown (n := 72) (fun _ => (0 : EReal)) x0 x1 cntK := by
  have hcov := scover0_A_0 (F := Ideal) c i arg1 harg1 arg2 harg2 arg3 harg3 arg4 harg4 arg5 harg5 hc0 hc1 x0 x1
  unfold sout0_A_0
  rw [View.read_writes_eq_canon _ _ _ hcov]
  funext y
  clear hcov
  unfold kernelRun0_A
  dsimp only
  sl_unfold_words
  have hst := st_eq Variants.none c none i arg1 harg1 arg2 harg2 arg3 harg3 arg4 harg4 arg5 harg5 x0 x1 128 le_rfl
  dsimp only [carry] at hst
  rw [trips_eq, hst]
  simp (disch := decide) only [load_pass]
  have zeros : k0_pay83 (F := Ideal) = fun _ => (0 : EReal) := funext fun _ => Ideal.ofBits_zero_f32
  have grow := band (n := 72) (fun _ => (0 : EReal)) x0 x1 cntK
  exact (agrees_zero _ _
    |>.cons (grow 0 0 rfl _ _ _ (load_zeros _ _ _ zeros _))
    |>.cons (grow 1 8 rfl _ _ _ (load_zeros _ _ _ zeros _))
    |>.cons (grow 2 16 rfl _ _ _ (load_zeros _ _ _ zeros _))
    |>.cons (grow 3 24 rfl _ _ _ (load_zeros _ _ _ zeros _))
    |>.cons (grow 4 32 rfl _ _ _ (load_zeros _ _ _ zeros _))
    |>.cons (grow 5 40 rfl _ _ _ (load_zeros _ _ _ zeros _))
    |>.cons (grow 6 48 rfl _ _ _ (load_zeros _ _ _ zeros _))
    |>.cons (grow 7 56 rfl _ _ _ (load_zeros _ _ _ zeros _))
    |>.cons (grow 8 64 rfl _ _ _ (load_zeros _ _ _ zeros _))) y (y 0).isLt

/-- The first grid point leaves the stack of sums grown from zeros. -/
theorem sum_A (c : Dev nD) (i : grid0.Coords) (arg1 : Memref sig .tc .vmem S16384x80 .f32) (harg1 : arg1.IsWhole) (arg2 : Memref sig .tc .vmem S16384x80 .f32) (harg2 : arg2.IsWhole)
    (arg3 : Memref sig .tc .smem S1 .f32) (harg3 : arg3.IsWhole) (arg4 : Memref sig .tc .vmem S72x80 .f32) (harg4 : arg4.IsWhole)
    (arg5 : Memref sig .tc .vmem S80x80 .f32) (harg5 : arg5.IsWhole) (hc0 : cond0_0 i) (hc1 : ¬cond0_1 i)
    (x0 x1 : Vec Ideal S16384x80 .f32) :
    sout0_A_1 (F := Ideal) c i arg1 harg1 arg2 harg2 arg3 harg3 arg4 harg4 arg5 harg5 hc0 hc1 x0 x1
      = grown (n := 80) (fun _ => (0 : EReal)) x0 x1 lossLevel := by
  have hcov := scover0_A_1 (F := Ideal) c i arg1 harg1 arg2 harg2 arg3 harg3 arg4 harg4 arg5 harg5 hc0 hc1 x0 x1
  unfold sout0_A_1
  rw [View.read_writes_eq_canon _ _ _ hcov]
  funext y
  clear hcov
  unfold kernelRun0_A
  dsimp only
  sl_unfold_words
  have hst := st_eq Variants.none c none i arg1 harg1 arg2 harg2 arg3 harg3 arg4 harg4 arg5 harg5 x0 x1 128 le_rfl
  dsimp only [carry] at hst
  rw [trips_eq, hst]
  simp (disch := decide) only [load_pass]
  have zeros : k0_pay84 (F := Ideal) = fun _ => (0 : EReal) := funext fun _ => Ideal.ofBits_zero_f32
  have grow := band (n := 80) (fun _ => (0 : EReal)) x0 x1 lossLevel
  exact (agrees_zero _ _
    |>.cons (grow 0 0 rfl _ _ _ (load_zeros _ _ _ zeros _))
    |>.cons (grow 1 8 rfl _ _ _ (load_zeros _ _ _ zeros _))
    |>.cons (grow 2 16 rfl _ _ _ (load_zeros _ _ _ zeros _))
    |>.cons (grow 3 24 rfl _ _ _ (load_zeros _ _ _ zeros _))
    |>.cons (grow 4 32 rfl _ _ _ (load_zeros _ _ _ zeros _))
    |>.cons (grow 5 40 rfl _ _ _ (load_zeros _ _ _ zeros _))
    |>.cons (grow 6 48 rfl _ _ _ (load_zeros _ _ _ zeros _))
    |>.cons (grow 7 56 rfl _ _ _ (load_zeros _ _ _ zeros _))
    |>.cons (grow 8 64 rfl _ _ _ (load_zeros _ _ _ zeros _))
    |>.cons (grow 9 72 rfl _ _ _ (load_zeros _ _ _ zeros _))) y (y 0).isLt

end Cert.Ghm

end
-- ==== Proof.Finish.lean ====
/- What the last grid point writes: the bins' counts and sums as differences of consecutive levels, the mean loss of
   each nonempty bin, and the sum of the means over the number of nonempty bins. -/
module

public import proofs.«01_k».proof.Proof.Bands

@[expose] public section

set_option maxRecDepth 16384

noncomputable section

namespace Cert.Ghm

open Idealize.ShloMosaic Idealize.ShloMosaic.TcCoe Idealize.ShloMosaic.ValueIdx Idealize.ShloMosaic.Tactic Idealize.SL.Sem
open Cert.KernelIdeal Cert.KernelIdeal.Gen

/-- The sum of an 8 × 80 array, as the kernel reduces it. -/
def bandSum (V : FVec Ideal S8x80 .f32) : EReal :=
  extractAt ![0, 0, 0] (shapeCast S1x1x1 (multiReduction .add [1, 2] S1
    (shapeCast S1x8x80 V shapeCasts_S8x80_S1x8x80) 0x00000000#32 reduces_S1x8x80_S1 (.inl rfl) rfl) shapeCasts_S1_S1x1x1)
    inpos_S1x1x1_p0_0_0

/-- The sum of the band of a stack at row `o`. -/
def stackSum {n : ℕ} (T : Vec Ideal (⟨2, ![n, 80]⟩ : Shape) .f32) (o : ℕ)
    (inb : ∀ a, (![o, 0] : Fin 2 → Nat) a + S8x80.size a ≤ (⟨2, ![n, 80]⟩ : Shape).size a) : EReal :=
  bandSum fun j => T ((Rect.unit (s := (⟨2, ![n, 80]⟩ : Shape)) ![o, 0] S8x80.size inb).emb j)

/-- The count at each level: all entries, the nine stacked counts, and zero past the last edge. -/
def levelCnt (T : Vec Ideal S72x80 .f32) : ℕ → EReal
  | 0 => Ideal.ofBits .f32 0x4B200000#32
  | 1 => stackSum T 0 inb_S72x80_S8x80_0_0
  | 2 => stackSum T 8 inb_S72x80_S8x80_8_0
  | 3 => stackSum T 16 inb_S72x80_S8x80_16_0
  | 4 => stackSum T 24 inb_S72x80_S8x80_24_0
  | 5 => stackSum T 32 inb_S72x80_S8x80_32_0
  | 6 => stackSum T 40 inb_S72x80_S8x80_40_0
  | 7 => stackSum T 48 inb_S72x80_S8x80_48_0
  | 8 => stackSum T 56 inb_S72x80_S8x80_56_0
  | 9 => stackSum T 64 inb_S72x80_S8x80_64_0
  | _ => Ideal.ofBits .f32 0x00000000#32

/-- The loss at each level: the ten stacked sums, and zero past the last edge. -/
def levelLoss (T : Vec Ideal S80x80 .f32) : ℕ → EReal
  | 0 => stackSum T 0 inb_S80x80_S8x80_0_0
  | 1 => stackSum T 8 inb_S80x80_S8x80_8_0
  | 2 => stackSum T 16 inb_S80x80_S8x80_16_0
  | 3 => stackSum T 24 inb_S80x80_S8x80_24_0
  | 4 => stackSum T 32 inb_S80x80_S8x80_32_0
  | 5 => stackSum T 40 inb_S80x80_S8x80_40_0
  | 6 => stackSum T 48 inb_S80x80_S8x80_48_0
  | 7 => stackSum T 56 inb_S80x80_S8x80_56_0
  | 8 => stackSum T 64 inb_S80x80_S8x80_64_0
  | 9 => stackSum T 72 inb_S80x80_S8x80_72_0
  | _ => Ideal.ofBits .f32 0x00000000#32

/-- The number of nonempty bins among the first `m`, from the levels' counts. -/
def binsK (C : ℕ → EReal) : ℕ → EReal
  | 0 => Ideal.ofBits .f32 0x00000000#32
  | m + 1 => binsK C m + Scalar.select (Ideal.cmp .ogt (C m - C (m + 1)) (Ideal.ofBits .f32 0x00000000#32))
      (Ideal.ofBits .f32 0x3F800000#32) (Ideal.ofBits .f32 0x00000000#32)

/-- The sum of the mean losses of the nonempty bins among the first `m`, from the levels' counts and losses. -/
def meansK (C S : ℕ → EReal) : ℕ → EReal
  | 0 => Ideal.ofBits .f32 0x00000000#32
  | m + 1 => meansK C S m + Scalar.select (Ideal.cmp .ogt (C m - C (m + 1)) (Ideal.ofBits .f32 0x00000000#32))
      (Ideal.div (S m - S (m + 1)) (max (C m - C (m + 1)) (Ideal.ofBits .f32 0x3F800000#32))) (Ideal.ofBits .f32 0x00000000#32)

/-- The kernel's result from the levels' counts and losses. -/
def finishK (C S : ℕ → EReal) : EReal :=
  Scalar.select (Ideal.cmp .ogt (binsK C 10) (Ideal.ofBits .f32 0x00000000#32))
    (Ideal.div (meansK C S 10) (max (binsK C 10) (Ideal.ofBits .f32 0x3F800000#32))) (meansK C S 10)

/-- The last grid point writes the result worked out from the stacks it leaves. -/
theorem out_C (c : Dev nD) (i : grid0.Coords) (arg1 : Memref sig .tc .vmem S16384x80 .f32) (harg1 : arg1.IsWhole) (arg2 : Memref sig .tc .vmem S16384x80 .f32) (harg2 : arg2.IsWhole)
    (arg3 : Memref sig .tc .smem S1 .f32) (harg3 : arg3.IsWhole) (arg4 : Memref sig .tc .vmem S72x80 .f32) (harg4 : arg4.IsWhole)
    (arg5 : Memref sig .tc .vmem S80x80 .f32) (harg5 : arg5.IsWhole) (hc0 : ¬cond0_0 i) (hc1 : cond0_1 i)
    (x0 x1 : Vec Ideal S16384x80 .f32) (xs0 : Vec Ideal S72x80 .f32) (xs1 : Vec Ideal S80x80 .f32) :
    out0_C_2 (F := Ideal) c i arg1 harg1 arg2 harg2 arg3 harg3 arg4 harg4 arg5 harg5 hc0 hc1 x0 x1 xs0 xs1
      = fun _ => finishK
          (levelCnt (sout0_C_0 (F := Ideal) c i arg1 harg1 arg2 harg2 arg3 harg3 arg4 harg4 arg5 harg5 hc0 hc1 x0 x1 xs0 xs1))
          (levelLoss (sout0_C_1 (F := Ideal) c i arg1 harg1 arg2 harg2 arg3 harg3 arg4 harg4 arg5 harg5 hc0 hc1 x0 x1 xs0 xs1)) := by
  have hcov := cover0_C_2 (F := Ideal) c i arg1 harg1 arg2 harg2 arg3 harg3 arg4 harg4 arg5 harg5 hc0 hc1 x0 x1 xs0 xs1
  have hcov0 := scover0_C_0 (F := Ideal) c i arg1 harg1 arg2 harg2 arg3 harg3 arg4 harg4 arg5 harg5 hc0 hc1 x0 x1 xs0 xs1
  have hcov1 := scover0_C_1 (F := Ideal) c i arg1 harg1 arg2 harg2 arg3 harg3 arg4 harg4 arg5 harg5 hc0 hc1 x0 x1 xs0 xs1
  unfold out0_C_2 sout0_C_0 sout0_C_1
  rw [View.read_writes_eq_canon _ _ _ hcov, View.read_writes_eq_canon _ _ _ hcov0, View.read_writes_eq_canon _ _ _ hcov1]
  clear hcov hcov0 hcov1
  unfold kernelRun0_C
  dsimp only
  sl_unfold_words
  generalize st_k0_t1 (F := Ideal) _ _ _ _ _ _ _ _ _ _ _ _ _ _ _ _ _ _ = ST
  simp only [View.readCov_eq_canon']
  generalize View.canon [(⟨Rect.unit ![64, 0] ![8, 80] _, _⟩ : View.Piece (Elt Ideal) S72x80 .f32), _, _, _, _, _, _, _, _] = T0
  generalize View.canon [(⟨Rect.unit ![72, 0] ![8, 80] _, _⟩ : View.Piece (Elt Ideal) S80x80 .f32), _, _, _, _, _, _, _, _, _] = T1
  rw [View.canon_unit_zero (by funext a; fin_cases a; rfl)]
  rfl

end Cert.Ghm

end
-- ==== Proof.Stacks.lean ====
/- The scratch stacks over the grid, and the sum of each band after the last point: the sum of the band's quantity over
   every entry of the two argument arrays. -/
module

public import proofs.«01_k».proof.Proof.Finish

@[expose] public section

set_option maxRecDepth 16384

noncomputable section

namespace Cert.Ghm

open Idealize.ShloMosaic Idealize.ShloMosaic.TcCoe Idealize.ShloMosaic.ValueIdx Idealize.ShloMosaic.Tactic Idealize.SL.Sem
open Cert.KernelIdeal Cert.KernelIdeal.Gen

/-- Row block `t` of an argument array. -/
def block (X : Vec Ideal S131072x80 .f32) (t : ℕ) : Vec Ideal S16384x80 .f32 :=
  fun j => X (ix2 (Fin.ofNat 131072 (16384 * t + (j 0).val)) (j 1))

/-- The stack after `k` grid points: what the blocks before gathered, band by band. -/
def stack (n : ℕ) (X0 X1 : Vec Ideal S131072x80 .f32) (f : ℕ → EReal → EReal → EReal) (k : ℕ) :
    (⟨2, ![n, 80]⟩ : Shape).Idx → EReal :=
  fun y => ∑ t ∈ Finset.range k, gather (block X0 t) (block X1 t) (f ((y 0).val / 8)) 128 (Fin.ofNat 8 (y 0).val) (y 1)

theorem grown_zeros (n : ℕ) (X0 X1 : Vec Ideal S131072x80 .f32) (f : ℕ → EReal → EReal → EReal) :
    grown (n := n) (fun _ => (0 : EReal)) (block X0 0) (block X1 0) f = stack n X0 X1 f 1 := by
  funext y
  unfold grown stack
  rw [Finset.sum_range_one, zero_add]

theorem grown_stack (n : ℕ) (X0 X1 : Vec Ideal S131072x80 .f32) (f : ℕ → EReal → EReal → EReal) (k : ℕ) :
    grown (stack n X0 X1 f k) (block X0 k) (block X1 k) f = stack n X0 X1 f (k + 1) := by
  funext y
  unfold grown stack
  rw [Finset.sum_range_succ]

section Run

variable (m : (ℓ : Loc nD τ sig) → Buf (Elt Ideal) ℓ)

/-- The block a grid point reads of the first argument. -/
theorem iblk0 (c : Dev nD) (t : Fin cfg0.N) :
    (iblk m c 0 t : Vec Ideal S16384x80 .f32) = block (m (c.tc.loc main_arg0)) t.val := by
  have hN : cfg0.N = 8 := N_0
  have ht := t.isLt
  have hi : win0_0.index t 0 = t.val ∧ win0_0.index t 1 = 0 := by
    rcases fin_N0 t with rfl | rfl | rfl | rfl | rfl | rfl | rfl | rfl <;> decide
  funext j
  have hj : (j 0).val < 16384 := (j 0).isLt
  unfold iblk block
  rw [View.read_apply]
  show V m c main_arg0 _ = m (c.tc.loc main_arg0) _
  unfold V
  congr 1
  funext a
  apply Fin.ext
  match a with
  | ⟨0, _⟩ => show win0_0.index t 0 * 16384 + 1 * (j 0).val = (16384 * t.val + (j 0).val) % 131072; rw [hi.1]; omega
  | ⟨1, _⟩ => show win0_0.index t 1 * 80 + 1 * (j 1).val = (j 1).val; rw [hi.2]; omega

/-- The block a grid point reads of the second argument. -/
theorem iblk1 (c : Dev nD) (t : Fin cfg0.N) :
    (iblk m c 1 t : Vec Ideal S16384x80 .f32) = block (m (c.tc.loc main_arg1)) t.val := by
  have hN : cfg0.N = 8 := N_0
  have ht := t.isLt
  have hi : win0_1.index t 0 = t.val ∧ win0_1.index t 1 = 0 := by
    rcases fin_N0 t with rfl | rfl | rfl | rfl | rfl | rfl | rfl | rfl <;> decide
  funext j
  have hj : (j 0).val < 16384 := (j 0).isLt
  unfold iblk block
  rw [View.read_apply]
  show V m c main_arg1 _ = m (c.tc.loc main_arg1) _
  unfold V
  congr 1
  funext a
  apply Fin.ext
  match a with
  | ⟨0, _⟩ => show win0_1.index t 0 * 16384 + 1 * (j 0).val = (16384 * t.val + (j 0).val) % 131072; rw [hi.1]; omega
  | ⟨1, _⟩ => show win0_1.index t 1 * 80 + 1 * (j 1).val = (j 1).val; rw [hi.2]; omega

/-- After a point before the last, the scratch arrays hold the stacks of the points so far. -/
theorem scratch_eq (c : Dev nD) : ∀ (n : ℕ) (h : n < cfg0.N), n < 7 →
    (outsAt0 m c n h).2.1 = stack 72 (m (c.tc.loc main_arg0)) (m (c.tc.loc main_arg1)) cntK (n + 1)
      ∧ (outsAt0 m c n h).2.2 = stack 80 (m (c.tc.loc main_arg0)) (m (c.tc.loc main_arg1)) lossLevel (n + 1)
  | 0, h, _ => by
    have e := outsAt0_A m c ⟨0, h⟩ rfl (by dsimp only; omega)
    dsimp only at e
    rw [e]
    dsimp only
    rw [cnt_A, sum_A, iblk0, iblk1]
    exact ⟨grown_zeros _ _ _ _, grown_zeros _ _ _ _⟩
  | n + 1, h, h7 => by
    obtain ⟨ih0, ih1⟩ := scratch_eq c n (Nat.lt_of_succ_lt h) (by omega)
    have e := outsAt0_B m c ⟨n + 1, h⟩ (by dsimp only; omega) (by dsimp only; omega)
    dsimp only at e
    rw [e]
    dsimp only
    rw [cnt_B, sum_B, iblk0, iblk1]
    exact ⟨(congrArg (fun T => grown (n := 72) T _ _ cntK) ih0).trans (grown_stack _ _ _ _ _),
      (congrArg (fun T => grown (n := 80) T _ _ lossLevel) ih1).trans (grown_stack _ _ _ _ _)⟩

/-- The last point writes the result worked out from the full stacks. -/
theorem out_eq (c : Dev nD) (h : 7 < cfg0.N) :
    (outsAt0 m c 7 h).1 = fun _ => finishK
      (levelCnt (stack 72 (m (c.tc.loc main_arg0)) (m (c.tc.loc main_arg1)) cntK 8))
      (levelLoss (stack 80 (m (c.tc.loc main_arg0)) (m (c.tc.loc main_arg1)) lossLevel 8)) := by
  obtain ⟨ih0, ih1⟩ := scratch_eq m c 6 (Nat.lt_of_succ_lt h) (by omega)
  have e := outsAt0_C m c ⟨7, h⟩ (by dsimp only; omega) (by dsimp only)
  dsimp only at e
  rw [e]
  dsimp only
  rw [out_C, cnt_C, sum_C, iblk0, iblk1]
  funext _
  exact congrArg₂ finishK
    (congrArg levelCnt ((congrArg (fun T => grown (n := 72) T _ _ cntK) ih0).trans (grown_stack _ _ _ _ _)))
    (congrArg levelLoss ((congrArg (fun T => grown (n := 80) T _ _ lossLevel) ih1).trans (grown_stack _ _ _ _ _)))

end Run

/-- The reduction of an 8 × 80 array is its double sum. -/
theorem bandSum_eq (V : FVec Ideal S8x80 .f32) : bandSum V = ∑ r : Fin 8, ∑ l : Fin 80, V (ix2 r l) := by
  unfold bandSum
  have e : ∀ j : S1.Idx, multiReduction .add [1, 2] S1 (shapeCast S1x8x80 V shapeCasts_S8x80_S1x8x80) 0x00000000#32
      reduces_S1x8x80_S1 (.inl rfl) rfl j = ∑ i : S8x80.Idx, V i := fun j =>
    (Ideal.multiReduction_add_total _ _ _ (fun b => by fin_cases b; rfl) _ _ j).trans
      (Equiv.sum_comp (Shape.reshapeEquiv shapeCasts_S8x80_S1x8x80) V)
  rw [← sum_idx2]
  exact e _

/-- A sum over `a * b` consecutive numbers, in `a` stretches of `b`. -/
theorem sum_range_mul {M : Type*} [AddCommMonoid M] (a b : ℕ) (F : ℕ → M) :
    ∑ x ∈ Finset.range (a * b), F x = ∑ i ∈ Finset.range a, ∑ k ∈ Finset.range b, F (b * i + k) := by
  induction a with
  | zero => simp
  | succ a ih => rw [Nat.succ_mul, Finset.sum_range_add, Finset.sum_range_succ, ih, Nat.mul_comm b a]

/-- The sum of band `b` of the full stack is the sum of its quantity over all entries. -/
theorem stackSum_eq (n : ℕ) (X0 X1 : Vec Ideal S131072x80 .f32) (f : ℕ → EReal → EReal → EReal) (b o : ℕ) (ho : o = 8 * b)
    (inb : ∀ a, (![o, 0] : Fin 2 → Nat) a + S8x80.size a ≤ (⟨2, ![n, 80]⟩ : Shape).size a) :
    stackSum (stack n X0 X1 f 8) o inb = ∑ j : S131072x80.Idx, f b (X0 j) (X1 j) := by
  subst ho
  unfold stackSum
  rw [bandSum_eq]
  have e : ∀ (r : Fin 8) (l : Fin 80), stack n X0 X1 f 8
      ((Rect.unit (s := (⟨2, ![n, 80]⟩ : Shape)) ![8 * b, 0] S8x80.size inb).emb (ix2 r l))
      = ∑ t ∈ Finset.range 8, gather (block X0 t) (block X1 t) (f b) 128 r l := by
    intro r l
    have h0 : (((Rect.unit (s := (⟨2, ![n, 80]⟩ : Shape)) ![8 * b, 0] S8x80.size inb).emb (ix2 r l)) 0).val = 8 * b + r.val := by
      show 8 * b + 1 * r.val = _
      omega
    have h1 : (((Rect.unit (s := (⟨2, ![n, 80]⟩ : Shape)) ![8 * b, 0] S8x80.size inb).emb (ix2 r l)) 1) = l := by
      apply Fin.ext
      show 0 + 1 * l.val = l.val
      omega
    have h2 : (8 * b + r.val) / 8 = b := by omega
    have h3 : Fin.ofNat 8 (8 * b + r.val) = r := Fin.ext (by show (8 * b + r.val) % 8 = r.val; omega)
    unfold stack
    rw [h0, h1, h2, h3]
  simp only [e]
  rw [sum_idx2, Finset.sum_comm, Finset.sum_comm (γ := Fin 131072)]
  refine Finset.sum_congr rfl fun l _ => ?_
  have hF : ∀ F : ℕ → EReal, ∑ R : Fin 131072, F R.val
      = ∑ r : Fin 8, ∑ t ∈ Finset.range 8, ∑ j ∈ Finset.range 128, ∑ q : Fin 16, F (16384 * t + (128 * j + 8 * q.val + r.val)) := by
    intro F
    rw [Fin.sum_univ_eq_sum_range, show 131072 = 8 * (128 * (16 * 8)) from rfl, sum_range_mul]
    simp only [sum_range_mul 128, sum_range_mul 16]
    rw [Fin.sum_univ_eq_sum_range (fun r => ∑ t ∈ Finset.range 8, ∑ j ∈ Finset.range 128, ∑ q : Fin 16, F (16384 * t + (128 * j + 8 * q.val + r))) 8]
    symm
    rw [Finset.sum_comm]
    refine Finset.sum_congr rfl fun t _ => ?_
    rw [Finset.sum_comm]
    refine Finset.sum_congr rfl fun j _ => ?_
    simp only [fun r => Fin.sum_univ_eq_sum_range (fun q => F (16384 * t + (128 * j + 8 * q + r))) 16]
    rw [Finset.sum_comm]
    refine Finset.sum_congr rfl fun q _ => Finset.sum_congr rfl fun r _ => ?_
    congr 1
    omega
  have h := hF fun R => f b (X0 (ix2 (Fin.ofNat 131072 R) l)) (X1 (ix2 (Fin.ofNat 131072 R) l))
  have hR : ∀ R : Fin 131072, Fin.ofNat 131072 R.val = R := fun R => Fin.ext (Nat.mod_eq_of_lt R.isLt)
  simp only [hR] at h
  rw [h]
  refine Finset.sum_congr rfl fun r _ => Finset.sum_congr rfl fun t _ => Finset.sum_congr rfl fun j hj =>
    Finset.sum_congr rfl fun q _ => ?_
  have hj' := Finset.mem_range.mp hj
  have hr := r.isLt
  have hq := q.isLt
  have hm : (128 * j + 8 * q.val + r.val) % 16384 = 128 * j + 8 * q.val + r.val := by omega
  show f b (X0 (ix2 (Fin.ofNat 131072 (16384 * t + (128 * j + 8 * q.val + r.val) % 16384)) l))
    (X1 (ix2 (Fin.ofNat 131072 (16384 * t + (128 * j + 8 * q.val + r.val) % 16384)) l)) = _
  rw [hm]

end Cert.Ghm

end
-- ==== Proof.KernelRun.lean ====
/- The run of the idealized kernel: its result is the finishing arithmetic of the two stacks after the last grid point. -/
module

public import proofs.«01_k».proof.Proof.Stacks

@[expose] public section

set_option maxRecDepth 16384

noncomputable section

namespace Cert.Ghm

open Idealize.ShloMosaic Idealize.ShloMosaic.TcCoe Idealize.ShloMosaic.ValueIdx Idealize.ShloMosaic.Tactic Idealize.SL.Sem
open Cert.KernelIdeal Cert.KernelIdeal.Gen

/-- The number the kernel computes from the two argument arrays. -/
def kernelValue (X0 X1 : Vec Ideal S131072x80 .f32) : EReal :=
  finishK (levelCnt (stack 72 X0 X1 cntK 8)) (levelLoss (stack 80 X0 X1 lossLevel 8))

variable (m : (ℓ : Loc nD τ sig) → Buf (Elt Ideal) ℓ) (ρ : Dev nD → PrngReg)

/-- That number as contents of the one-element array the grid writes. -/
def written (c : Dev nD) : Buf (Elt Ideal) ((c : Thread nD τ).loc main_call0_v0) :=
  fun _ => kernelValue (m (c.tc.loc main_arg0)) (m (c.tc.loc main_arg1))

/-- The one write-back, after the last grid point, writes that number. -/
theorem flushed_eq (c : Dev nD) (t : Fin cfg0.N) (hf : (cfg0.win 2).flush t = true) :
    (dats m 0 c).flushed 2 t = ((cfg0.win 2).blk t).view.read (Elt Ideal) (written m c) := by
  have hN : cfg0.N = 8 := N_0
  have h7 : t.val = 7 := by have := (flush0_2 t).mp hf; have := t.isLt; omega
  obtain rfl : t = t0_7 := Fin.ext h7
  show (cfg0.win 2).cut (grid0.coords t0_7) ((dats m 0 c).after 2 t0_7) = _
  have e : (dats m 0 c).after 2 t0_7 = fun _ => kernelValue (m (c.tc.loc main_arg0)) (m (c.tc.loc main_arg1)) := by
    rw [after0_2]
    exact out_eq m c _
  rw [e]
  rfl

/-- The array the grid writes ends at that number. -/
theorem final_out (c : Dev nD) : (dats m 0 c).arrAt 2 cfg0.N = written m c :=
  (dats m 0 c).arrAt_eq_of_cover 2 (written m c) (flushed_eq m c) fun i =>
    ⟨t0_7, (flush0_2 t0_7).mpr rfl, by
      show i ∈ ((View.whole main_call0_v0).slice (win0_2.rect t0_7)).set
      rw [View.set_slice_whole, Rect.mem_set_unit]
      intro a
      have h0 : (i 0 : Nat) < 1 := (i 0).isLt
      match a with
      | ⟨0, _⟩ =>
        show win0_2.index t0_7 0 * win0_2.size 0 ≤ (i 0 : Nat) ∧ (i 0 : Nat) < win0_2.index t0_7 0 * win0_2.size 0 + win0_2.xsize (grid0.coords t0_7) 0
        rw [show win0_2.index t0_7 0 * win0_2.size 0 = 0 from by decide +kernel,
          show win0_2.xsize (grid0.coords t0_7) 0 = 1 from by decide +kernel]
        omega⟩

/-- The idealized kernel runs; its result is `kernelValue` of the argument arrays, which end unchanged. -/
theorem kernel_run : θ_run defs (onTc (τ := τ) (main (F := Ideal))) ⟨m, fun _ => 0, ρ⟩ fun r => ∀ c : Dev nD,
    r.2.mem ((c.tc : Thread nD τ).loc main_v0) = (fun _ => kernelValue (m (c.tc.loc main_arg0)) (m (c.tc.loc main_arg1)))
    ∧ r.2.mem ((c.tc : Thread nD τ).loc main_arg0) = m ((c.tc : Thread nD τ).loc main_arg0)
    ∧ r.2.mem ((c.tc : Thread nD τ).loc main_arg1) = m ((c.tc : Thread nD τ).loc main_arg1) := by
  refine (θ_run defs _ _).mono (fun r h c => ⟨?_, h.2 c⟩) (θ_run_and (run_main m ρ) (unchanged m ρ))
  have hv := (h.1 c).2 main_v0 (by decide)
  refine hv.trans ?_
  unfold Pipeline.afterTail₀ hostOps1
  simp only [List.flatten_cons, List.flatten_nil, List.append_nil]
  after_results
  have e := (Pipeline.withArrays_arr (cfgs 0).spec (fun a b h => by revert a b; decide) c (V0 m c) (fun w => (dats m 0 c).arrAt w (cfgs 0).N) 2).trans (final_out m c)
  exact congrArg (fun X => shapeCast S_ X shapeCasts_S1_S_) e

end Cert.Ghm

end
-- ==== Proof.Reals.lean ====
/- The extended-real operations of the two programs, read on real numbers, and the constants that they name. -/
module

public import Idealize.ShloMosaic.PureOps.Ideal.Laws
public import Idealize.ShloMosaic.PureOps

@[expose] public section

noncomputable section

namespace Cert.Ghm

open Idealize.ShloMosaic

/-- The zero word is the number zero. -/
theorem word_zero : Ideal.ofBits .f32 0x00000000#32 = ((0 : ℝ) : EReal) := by
  rw [Ideal.ofBits_zero_f32]; rfl

/-- The word of one. -/
theorem word_one : Ideal.ofBits .f32 0x3F800000#32 = ((1 : ℝ) : EReal) := by
  simp [Ideal.ofBits, Ideal.ieee, -EReal.coe_mul]
  norm_num

/-- The word of ten. -/
theorem word_ten : Ideal.ofBits .f32 0x41200000#32 = ((10 : ℝ) : EReal) := by
  simp [Ideal.ofBits, Ideal.ieee, -EReal.coe_mul]
  norm_num

/-- The word of eighty, the number of columns. -/
theorem word_eighty : Ideal.ofBits .f32 0x42A00000#32 = ((80 : ℝ) : EReal) := by
  simp [Ideal.ofBits, Ideal.ieee, -EReal.coe_mul]
  norm_num

/-- The word of the number of entries. -/
theorem word_entries : Ideal.ofBits .f32 0x4B200000#32 = ((10485760 : ℝ) : EReal) := by
  simp [Ideal.ofBits, Ideal.ieee, -EReal.coe_mul]

/-- What the reference adds to its last edge. -/
def nudge : ℝ := 8796093 / 8796093022208

theorem nudge_pos : 0 < nudge := by unfold nudge; norm_num

/-- The word of what the reference adds to its last edge. -/
theorem word_nudge : Ideal.ofBits .f32 0x358637BD#32 = ((nudge : ℝ) : EReal) := by
  simp [Ideal.ofBits, Ideal.ieee, nudge, -EReal.coe_mul]
  norm_num

/-- The larger of two reals. -/
theorem max_real (a b : ℝ) : max (a : EReal) (b : EReal) = ((max a b : ℝ) : EReal) :=
  (EReal.coe_strictMono.monotone.map_max).symm

/-- A quotient of reals. -/
theorem div_real (a : ℝ) {b : ℝ} (hb : b ≠ 0) : Ideal.div (a : EReal) (b : EReal) = ((a / b : ℝ) : EReal) := by
  rw [Ideal.div_coe hb, ← EReal.coe_mul, one_div, div_eq_mul_inv]

/-- A sum of reals over a finite type. -/
theorem sum_real {I : Type} (s : Finset I) (f : I → ℝ) : ∑ i ∈ s, (f i : EReal) = ((∑ i ∈ s, f i : ℝ) : EReal) :=
  (map_sum (⟨⟨Real.toEReal, EReal.coe_zero⟩, EReal.coe_add⟩ : ℝ →+ EReal) f s).symm

/-- A choice between two reals by a truth value. -/
theorem select_real (p : Prop) [Decidable p] (a b : ℝ) :
    Scalar.select (BitVec.ofBool (decide p)) (a : EReal) (b : EReal) = ((if p then a else b : ℝ) : EReal) := by
  unfold Scalar.select
  by_cases h : p <;> simp [h]

theorem cmp_oge (a b : ℝ) : Ideal.cmp .oge (a : EReal) (b : EReal) = BitVec.ofBool (decide (b ≤ a)) := by
  simp only [Ideal.cmp, EReal.coe_le_coe_iff]

theorem cmp_ogt (a b : ℝ) : Ideal.cmp .ogt (a : EReal) (b : EReal) = BitVec.ofBool (decide (b < a)) := by
  simp only [Ideal.cmp, EReal.coe_lt_coe_iff]

theorem cmp_olt (a b : ℝ) : Ideal.cmp .olt (a : EReal) (b : EReal) = BitVec.ofBool (decide (a < b)) := by
  simp only [Ideal.cmp, EReal.coe_lt_coe_iff]

/-- The conjunction of two truth values. -/
theorem andi_bool (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

end Cert.Ghm

end
-- ==== Proof.RefEdges.lean ====
/- The reference's eleven edges: tenths of the bin's number, the last one raised by a small amount. -/
module

public import proofs.«01_k».proof.Proof.Gen.ReferenceIdeal.Read
public import proofs.«01_k».proof.Proof.Reals

@[expose] public section

set_option maxRecDepth 16384

noncomputable section

namespace Cert.Ghm

open Idealize.ShloMosaic Idealize.ShloMosaic.TcCoe Idealize.SL.Sem
open Cert.ReferenceIdeal Cert.ReferenceIdeal.Gen Cert.ReferenceIdeal.Read

/-- The place of the last edge. -/
def lastEdge : S11.Idx := fun a => match a with
  | ⟨0, _⟩ => (⟨10, by decide⟩ : Fin 11)

/-- The update lands on the last edge. -/
theorem scatter_target (j : S_.Idx) :
    (scatter_S11_S1_S__n_0_0_0).resultIdx? j (fun _ : S1.Idx => (10#32 : BitVec 32)) = some lastEdge := by
  obtain rfl : j = fun a => a.elim0 := funext fun a => a.elim0
  unfold ScatterDims.resultIdx?
  rw [dif_pos (by decide)]
  congr 1
  funext a
  fin_cases a
  rfl

/-- An update of the one last element of eleven. -/
theorem scatter_last (X : S11.Idx → EReal) (U : S_.Idx → EReal) (i : S11.Idx) (u : EReal) (hU : ∀ j, U j = u) :
    Host.scatter scatter_S11_S1_S__n_0_0_0 (FloatOps.addf (F := Ideal) (φ := .f32)) X (fun _ => 10#32) U i
      = if (i 0).val = 10 then X i + u else X i := by
  unfold Host.scatter
  rw [show List.finRange S_.numel = [⟨0, by decide⟩] from rfl, List.foldl_cons, List.foldl_nil, scatter_target, hU]
  have e : (i = lastEdge) ↔ (i 0).val = 10 :=
    ⟨fun h => by rw [h]; rfl, fun h => funext fun a => by fin_cases a; exact Fin.ext h⟩
  dsimp only
  by_cases h : (i 0).val = 10
  · rw [if_pos (e.mpr h), if_pos h, ← e.mpr h, Ideal.addf_def]
  · rw [if_neg (fun hh => h (e.mp hh)), if_neg h]

/-- The edges as real numbers: `b / 10` below the tenth, the last one a little above one. -/
def edge (b : ℕ) : ℝ := if b < 10 then (b : ℝ) / 10 else 1 + nudge

theorem edge_le (b : ℕ) : edge b ≤ edge (b + 1) := by
  unfold edge
  have hn := nudge_pos
  split_ifs with h h' h'
  · push_cast; linarith
  · have : b = 9 := by omega
    subst this
    norm_num
    linarith
  · omega
  · exact le_refl _

/-- The reference's edges are those numbers. -/
theorem edges_eq (i : S11.Idx) : val_main_v4 (F := Ideal) i = ((edge (i 0).val : ℝ) : EReal) := by
  have h3 : val_main_v3 (F := Ideal) = fun _ => 10#32 := funext fun i => by rw [val_main_v3_apply, val_main_c_apply]
  have h2 : val_main_v2 (F := Ideal) i = (((i 0).val / 10 : ℝ) : EReal) := by
    have hi : (i 0).val < 11 := (i 0).isLt
    have h0 : val_main_v0 (F := Ideal) i = (((i 0).val : ℝ) : EReal) := by
      show (((BitVec.ofNat 32 (i 0).val).toInt : ℝ) : EReal) = _
      have hn : (BitVec.ofNat 32 (i 0).val).toNat = (i 0).val := by rw [BitVec.toNat_ofNat]; omega
      rw [BitVec.toInt_eq_toNat_of_lt (by rw [hn]; omega), hn, Int.cast_natCast]
    rw [val_main_v2_apply, val_main_v1_apply, val_main_cst_apply, h0, Ideal.hostDivf_def, Ideal.ofBits_def, word_ten, div_real _ (by norm_num)]
  unfold val_main_v4
  rw [h3, scatter_last _ _ _ (nudge : EReal) (fun j => by rw [val_main_cst_0_apply, Ideal.ofBits_def, word_nudge]), h2]
  have hi : (i 0).val < 11 := (i 0).isLt
  unfold edge
  by_cases h : (i 0).val = 10
  · rw [if_pos h, if_neg (by omega), h, ← EReal.coe_add]
    norm_num
  · rw [if_neg h, if_pos (by omega)]

/-- An edge cut out of the eleven and read as a single number. -/
theorem edge_read (b : ℕ) (hs : S11.Slices ![b] S1) (hc : S1.ShapeCasts S_) :
    shapeCast S_ (extractStridedSlice S1 ![b] (val_main_v4 (F := Ideal)) hs) hc = fun _ => ((edge b : ℝ) : EReal) := by
  funext j
  show val_main_v4 (F := Ideal) _ = _
  rw [edges_eq]
  have key : ∀ k : Fin 1, b + k.val = b := fun k => by omega
  exact congrArg (fun n => ((edge n : ℝ) : EReal)) (key _)

end Cert.Ghm

end
-- ==== Proof.Entries.lean ====
/- One entry: on a real logit and a label between 0 and 1 the two programs hold the same gradient norm and loss. -/
module

public import proofs.«01_k».proof.Proof.Trip
public import proofs.«01_k».proof.Proof.RefEdges

@[expose] public section

set_option maxRecDepth 16384

noncomputable section

namespace Cert.Ghm

open Idealize.ShloMosaic Idealize.ShloMosaic.TcCoe

/-- The sigmoid. -/
def sigmoid (p : ℝ) : ℝ := 1 / (1 + Real.exp (-p))

/-- The gradient norm of an entry. -/
def gradient (p t : ℝ) : ℝ := |sigmoid p - t|

/-- The loss of an entry. -/
def entropy (p t : ℝ) : ℝ := max p 0 - p * t + Real.log (1 + Real.exp (-|p|))

theorem one_add_exp_pos (x : ℝ) : 0 < 1 + Real.exp x := by positivity

theorem sigmoid_nonneg (p : ℝ) : 0 ≤ sigmoid p := by unfold sigmoid; positivity

theorem sigmoid_le_one (p : ℝ) : sigmoid p ≤ 1 := by
  unfold sigmoid
  rw [div_le_one (one_add_exp_pos _)]
  have := Real.exp_pos (-p)
  linarith

/-- A label between 0 and 1 is at most 1 away from the sigmoid. -/
theorem gradient_le_one (p t : ℝ) (h0 : 0 ≤ t) (h1 : t ≤ 1) : gradient p t ≤ 1 := by
  unfold gradient
  have := sigmoid_nonneg p
  have := sigmoid_le_one p
  rw [abs_le]
  constructor <;> linarith

theorem gradient_nonneg (p t : ℝ) : 0 ≤ gradient p t := abs_nonneg _

/-- The larger of a real and its negative. -/
theorem abs_real (a : ℝ) : max (a : EReal) (-(a : EReal)) = ((|a| : ℝ) : EReal) := by
  rw [← EReal.coe_neg, max_real]; rfl

theorem exp_real (a : ℝ) : Ideal.exp (a : EReal) = ((Real.exp a : ℝ) : EReal) := rfl

theorem log_real {a : ℝ} (h : 0 < a) : Ideal.log (a : EReal) = ((Real.log a : ℝ) : EReal) := by
  show (if a ≤ 0 then ⊥ else ((Real.log a : ℝ) : EReal)) = _
  rw [if_neg (not_le.mpr h)]

theorem expK_real (p : ℝ) : expK (p : EReal) = ((Real.exp (-|p|) : ℝ) : EReal) := by
  unfold expK
  rw [abs_real, word_zero, ← EReal.coe_sub, exp_real, zero_sub]

/-- The kernel's sigmoid, which only takes exponentials of numbers that are not positive, is the sigmoid. -/
theorem sigmoid_cases (p : ℝ) : (if 0 ≤ p then 1 else Real.exp (-|p|)) / (1 + Real.exp (-|p|)) = sigmoid p := by
  unfold sigmoid
  split_ifs with h
  · rw [abs_of_nonneg h]
  · rw [abs_of_neg (not_le.mp h), neg_neg, div_eq_div_iff (one_add_exp_pos _).ne' (one_add_exp_pos _).ne', mul_add, mul_one, one_mul,
      ← Real.exp_add, add_neg_cancel, Real.exp_zero, add_comm]

/-- The kernel's gradient norm. -/
theorem gradK_real (p t : ℝ) : gradK (p : EReal) (t : EReal) = ((gradient p t : ℝ) : EReal) := by
  unfold gradK
  dsimp only
  rw [expK_real, word_zero, word_one, cmp_oge, select_real, ← EReal.coe_add, div_real _ (one_add_exp_pos _).ne', sigmoid_cases,
    ← EReal.coe_sub, abs_real]
  rfl

/-- The kernel's loss. -/
theorem lossK_real (p t : ℝ) : lossK (p : EReal) (t : EReal) = ((entropy p t : ℝ) : EReal) := by
  unfold lossK
  rw [expK_real, word_zero, word_one, max_real, ← EReal.coe_mul, ← EReal.coe_sub, ← EReal.coe_add, log_real (one_add_exp_pos _),
    ← EReal.coe_add]
  rfl

/-- The kernel's inner edges are the reference's. -/
theorem edgeK_real (b : ℕ) (hb : b < 9) : edgeK b = ((edge (b + 1) : ℝ) : EReal) := by
  have e : ∀ r s : ℝ, r = s → ((r : ℝ) : EReal) = ((s : ℝ) : EReal) := fun r s h => by rw [h]
  unfold edge
  rw [if_pos (by omega)]
  interval_cases b <;> exact e _ _ (by norm_num)

/-- The kernel's indicator of "at or above the edge". -/
theorem cntK_real (b : ℕ) (hb : b < 9) (p t : ℝ) :
    cntK b (p : EReal) (t : EReal) = ((if edge (b + 1) ≤ gradient p t then 1 else 0 : ℝ) : EReal) := by
  unfold cntK
  rw [gradK_real, edgeK_real b hb, word_zero, word_one, cmp_oge, select_real]

/-- The kernel's loss at or above the edge. -/
theorem sumK_real (b : ℕ) (hb : b < 9) (p t : ℝ) :
    sumK b (p : EReal) (t : EReal) = ((if edge (b + 1) ≤ gradient p t then entropy p t else 0 : ℝ) : EReal) := by
  unfold sumK
  rw [gradK_real, lossK_real, edgeK_real b hb, word_zero, cmp_oge, select_real]

section Reference

open Cert.ReferenceIdeal Cert.ReferenceIdeal.Gen Cert.ReferenceIdeal.Read

variable (x0 x1 : (⟨S131072x80, .f32⟩ : BufTy).Contents (Elt Ideal)) (i : S131072x80.Idx) (p t : ℝ)
  (h0 : x0 i = ((p : ℝ) : EReal)) (h1 : x1 i = ((t : ℝ) : EReal))

include h0 h1

/-- The reference's gradient norm. -/
theorem refGradient : val_main_v12 (F := Ideal) x0 x1 i = ((gradient p t : ℝ) : EReal) := by
  rw [val_main_v12_apply, val_main_v11_apply, val_main_v10_apply, val_main_v9_apply, val_main_v8_apply, val_main_v7_apply,
    val_main_v6_apply, val_main_v5_apply, val_main_cst_1_apply, val_main_cst_2_apply, h0, h1]
  simp only [Ideal.ofBits_def, word_one, Ideal.hostNegf_def, Ideal.hostUnary_exp_def, Ideal.addf_def, Ideal.hostDivf_def, Ideal.subf_def,
    Ideal.hostAbsf_def, Ideal.absf_def, Ideal.negf_def]
  rw [← EReal.coe_neg, exp_real, ← EReal.coe_add, div_real _ (one_add_exp_pos _).ne', ← EReal.coe_sub, abs_real]
  rfl

/-- The reference's loss. -/
theorem refEntropy : val_main_v227 (F := Ideal) x0 x1 i = ((entropy p t : ℝ) : EReal) := by
  rw [val_main_v227_apply, val_main_v226_apply, val_main_v225_apply, val_main_v224_apply, val_main_v223_apply, val_main_v222_apply,
    val_main_v221_apply, val_main_v220_apply, val_main_v219_apply, val_main_cst_47_apply, h0, h1]
  simp only [Ideal.ofBits_def, word_zero, Ideal.hostNegf_def, Ideal.hostUnary_exp_def, Ideal.hostUnary_log1p_def, Ideal.addf_def,
    Ideal.mulf_def, Ideal.maximumf_def, Ideal.subf_def, Ideal.hostAbsf_def, Ideal.absf_def, Ideal.negf_def]
  rw [abs_real, ← EReal.coe_neg, exp_real, Ideal.log1p, ← EReal.coe_one, ← EReal.coe_add, log_real (one_add_exp_pos _), max_real,
    ← EReal.coe_mul, ← EReal.coe_sub, ← EReal.coe_add]
  rfl

end Reference

end Cert.Ghm

end
-- ==== Proof.Binning.lean ====
/- The equation between the two ways of weighing the losses, over the real numbers alone.

   `I` is the set of entries, `g i` the gradient norm of an entry, `l i` its loss, and `e b` the lower edge of bin `b`
   (so bin `b` is `e b ≤ g < e (b + 1)`). One side keeps only the numbers "how many entries, and how much loss, lie at
   or above edge `b`" and takes differences of neighbours; the other gives every entry the weight of its bin and adds
   up weight times loss. `binned_eq_weighted` says the two agree when the edges ascend. -/
module

public import Idealize.ShloMosaic.PureOps.Ideal.Laws

@[expose] public section

noncomputable section

namespace Cert.Ghm

open Finset

variable {I : Type} [Fintype I]

/-- The total of `l` over the entries whose gradient norm is at least edge `b`. -/
def above (e : ℕ → ℝ) (g l : I → ℝ) (b : ℕ) : ℝ := ∑ i, if e b ≤ g i then l i else 0

/-- The total of `l` over the entries of bin `b`. -/
def within (e : ℕ → ℝ) (g l : I → ℝ) (b : ℕ) : ℝ := ∑ i, if e b ≤ g i ∧ g i < e (b + 1) then l i else 0

/-- A bin's total is the difference of the totals above its two edges. -/
theorem above_sub (e : ℕ → ℝ) (he : ∀ b, e b ≤ e (b + 1)) (g l : I → ℝ) (b : ℕ) :
    above e g l b - above e g l (b + 1) = within e g l b := by
  unfold above within
  rw [← Finset.sum_sub_distrib]
  refine Finset.sum_congr rfl fun i _ => ?_
  have := he b
  by_cases h1 : e (b + 1) ≤ g i
  · rw [if_pos (this.trans h1), if_pos h1, if_neg (by rintro ⟨_, h⟩; exact absurd h1 (not_le.mpr h)), sub_self]
  · rw [if_neg h1, sub_zero]
    by_cases h0 : e b ≤ g i
    · rw [if_pos h0, if_pos ⟨h0, not_le.mp h1⟩]
    · rw [if_neg h0, if_neg fun h => h0 h.1]

/-- How many of the first `m` bins are not empty, `c b` being the number of entries of bin `b`. -/
def filled (c : ℕ → ℝ) (m : ℕ) : ℝ := ∑ b ∈ range m, if 0 < c b then 1 else 0

/-- The mean losses of the first `m` bins, added up; an empty bin adds nothing. -/
def means (c s : ℕ → ℝ) (m : ℕ) : ℝ := ∑ b ∈ range m, if 0 < c b then s b / max (c b) 1 else 0

/-- Dividing by the number of bins that are not empty, unless there is none. -/
def perBin (n a : ℝ) : ℝ := if 0 < n then a / max n 1 else a

/-- The weight an entry holds after the first `m` bins were looked at: `tot` over the number of entries of its bin. -/
def weight (tot : ℝ) (e : ℕ → ℝ) (g : I → ℝ) (c : ℕ → ℝ) : ℕ → I → ℝ
  | 0, _ => 0
  | m + 1, i => if (e m ≤ g i ∧ g i < e (m + 1)) ∧ 0 < c m then tot / max (c m) 1 else weight tot e g c m i

/-- An entry beyond the first `m` bins has no weight yet. -/
theorem weight_eq_zero (tot : ℝ) (e : ℕ → ℝ) (he : ∀ b, e b ≤ e (b + 1)) (g : I → ℝ) (c : ℕ → ℝ) (i : I) :
    ∀ m, e m ≤ g i → weight tot e g c m i = 0
  | 0, _ => rfl
  | m + 1, h => by
    rw [weight, if_neg fun h' => absurd h (not_le.mpr h'.1.2)]
    exact weight_eq_zero tot e he g c i m ((he m).trans h)

/-- Weight times loss over all entries is `tot` times the sum of the bins' mean losses. -/
theorem sum_weight (tot : ℝ) (e : ℕ → ℝ) (he : ∀ b, e b ≤ e (b + 1)) (g l : I → ℝ) (c : ℕ → ℝ) :
    ∀ m, ∑ i, weight tot e g c m i * l i = tot * means c (within e g l) m
  | 0 => by simp [weight, means]
  | m + 1 => by
    have step : ∀ i, weight tot e g c (m + 1) i * l i
        = weight tot e g c m i * l i
          + (if 0 < c m then tot / max (c m) 1 else 0) * (if e m ≤ g i ∧ g i < e (m + 1) then l i else 0) := fun i => by
      by_cases hb : e m ≤ g i ∧ g i < e (m + 1)
      · by_cases hc : 0 < c m
        · rw [weight, if_pos ⟨hb, hc⟩, if_pos hb, if_pos hc, weight_eq_zero tot e he g c i m hb.1, zero_mul, zero_add]
        · rw [weight, if_neg fun h => hc h.2, if_neg hc, zero_mul, add_zero]
      · rw [weight, if_neg fun h => hb h.1, if_neg hb, mul_zero, add_zero]
    rw [Finset.sum_congr rfl fun i _ => step i, Finset.sum_add_distrib, sum_weight tot e he g l c m, ← Finset.mul_sum,
      means, means, Finset.sum_range_succ, mul_add]
    congr 1
    show _ * within e g l m = _
    split_ifs
    · ring
    · ring

/-- The mean losses of the bins over the number of bins not empty, is the weighted sum of the losses over `tot`. -/
theorem binned_eq_weighted (tot : ℝ) (htot : tot ≠ 0) (e : ℕ → ℝ) (he : ∀ b, e b ≤ e (b + 1)) (g l : I → ℝ) (c : ℕ → ℝ)
    (n : ℝ) (m : ℕ) :
    perBin n (means c (within e g l) m) = (∑ i, perBin n (weight tot e g c m i) * l i) / tot := by
  unfold perBin
  split_ifs
  · have : ∀ i, weight tot e g c m i / max n 1 * l i = (weight tot e g c m i * l i) / max n 1 := fun i => by ring
    rw [Finset.sum_congr rfl fun i _ => this i, ← Finset.sum_div, sum_weight tot e he]
    field_simp
  · rw [sum_weight tot e he, mul_div_assoc, mul_div_cancel₀ _ htot]

end Cert.Ghm

end
-- ==== Proof.RefResult.lean ====
/- What the reference computes, over real gradient norms and losses: the weight of each entry's bin times its loss. -/
module

public import proofs.«01_k».proof.Proof.RefEdges
public import proofs.«01_k».proof.Proof.Binning
public import Idealize.ShloMosaic.Lib.IndicatorCount
public import Idealize.ShloMosaic.Lib.ValueIdx

@[expose] public section

set_option maxRecDepth 16384

noncomputable section

namespace Cert.Ghm

open Idealize.ShloMosaic Idealize.ShloMosaic.TcCoe Idealize.ShloMosaic.ValueIdx Idealize.SL.Sem
open Cert.ReferenceIdeal Cert.ReferenceIdeal.Gen Cert.ReferenceIdeal.Read

/-- A number as an array of no axes. -/
abbrev Num := S_.Idx → EReal

/-- Which gradient norms lie at or above one edge and below the other. -/
def inBin (G : FVec Ideal S131072x80 .f32) (lo hi : FVec Ideal S_ .f32) : IVec S131072x80 1 :=
  andi (cmpf .oge G (broadcastInDim S131072x80 ![] bcast_S_S131072x80 lo))
    (cmpf .olt G (broadcastInDim S131072x80 ![] bcast_S_S131072x80 hi))

/-- How many marks are set, counted in integers. -/
def tally (K : IVec S131072x80 1) : FVec Ideal S_ .f32 :=
  sitofp .f32 (Host.reduce IntOp.addi (extui 32 K natLt_1_32) (constantI S_ 32 0#32) reducesTo_S131072x80_S_d0_1 h_S_)

/-- Whether any mark is set. -/
def marked (K : IVec S131072x80 1) : IVec S_ 1 := cmpf .ogt (tally K) (constant S_ .f32 0x00000000#32)

/-- One bin's step on the weights. -/
def stepWeights (G : FVec Ideal S131072x80 .f32) (lo hi : FVec Ideal S_ .f32) (W : FVec Ideal S131072x80 .f32) :
    FVec Ideal S131072x80 .f32 :=
  select (andi (inBin G lo hi) (broadcastInDim S131072x80 ![] bcast_S_S131072x80 (marked (inBin G lo hi))))
    (broadcastInDim S131072x80 ![] bcast_S_S131072x80
      (Host.divf (constant (F := Ideal) S_ .f32 0x42A00000#32) (maximumf (tally (inBin G lo hi)) (constant S_ .f32 0x3F800000#32)))) W

/-- One bin's step on the number of bins that are not empty. -/
def stepBins (G : FVec Ideal S131072x80 .f32) (lo hi : FVec Ideal S_ .f32) (n : FVec Ideal S_ .f32) : FVec Ideal S_ .f32 :=
  addf n (uitofp .f32 (marked (inBin G lo hi)))

/-- The number `edge b` as an array of no axes. -/
def edgeNum (b : ℕ) : FVec Ideal S_ .f32 := fun _ => ((edge b : ℝ) : EReal)

/-- The weights after the first `m` bins. -/
def weightsAfter (G : FVec Ideal S131072x80 .f32) : ℕ → FVec Ideal S131072x80 .f32
  | 0 => broadcastInDim S131072x80 ![] bcast_S_S131072x80 (constant S_ .f32 0x00000000#32)
  | m + 1 => stepWeights G (edgeNum m) (edgeNum (m + 1)) (weightsAfter G m)

/-- The number of nonempty bins among the first `m`. -/
def binsAfter (G : FVec Ideal S131072x80 .f32) : ℕ → FVec Ideal S_ .f32
  | 0 => constant S_ .f32 0x00000000#32
  | m + 1 => stepBins G (edgeNum m) (edgeNum (m + 1)) (binsAfter G m)

section Stages

variable (x0 x1 : (⟨S131072x80, .f32⟩ : BufTy).Contents (Elt Ideal))

/-- Every cut of the edges is the edge it names. -/
theorem cuts_eq : val_main_v15 (F := Ideal) = edgeNum 0 ∧ val_main_v19 (F := Ideal) = edgeNum 1
    ∧ val_main_v35 (F := Ideal) = edgeNum 1 ∧ val_main_v39 (F := Ideal) = edgeNum 2
    ∧ val_main_v55 (F := Ideal) = edgeNum 2 ∧ val_main_v59 (F := Ideal) = edgeNum 3
    ∧ val_main_v75 (F := Ideal) = edgeNum 3 ∧ val_main_v79 (F := Ideal) = edgeNum 4
    ∧ val_main_v95 (F := Ideal) = edgeNum 4 ∧ val_main_v99 (F := Ideal) = edgeNum 5
    ∧ val_main_v115 (F := Ideal) = edgeNum 5 ∧ val_main_v119 (F := Ideal) = edgeNum 6
    ∧ val_main_v135 (F := Ideal) = edgeNum 6 ∧ val_main_v139 (F := Ideal) = edgeNum 7
    ∧ val_main_v155 (F := Ideal) = edgeNum 7 ∧ val_main_v159 (F := Ideal) = edgeNum 8
    ∧ val_main_v175 (F := Ideal) = edgeNum 8 ∧ val_main_v179 (F := Ideal) = edgeNum 9
    ∧ val_main_v195 (F := Ideal) = edgeNum 9 ∧ val_main_v199 (F := Ideal) = edgeNum 10 := by
  refine ⟨?_, ?_, ?_, ?_, ?_, ?_, ?_, ?_, ?_, ?_, ?_, ?_, ?_, ?_, ?_, ?_, ?_, ?_, ?_, ?_⟩ <;> exact edge_read _ _ _

/-- The ten steps on the weights, as the reference takes them. -/
theorem weights_eq : val_main_v211 (F := Ideal) x0 x1 = weightsAfter (val_main_v12 (F := Ideal) x0 x1) 10 := by
  obtain ⟨a0, b0, a1, b1, a2, b2, a3, b3, a4, b4, a5, b5, a6, b6, a7, b7, a8, b8, a9, b9⟩ := cuts_eq
  have s0 : val_main_v31 (F := Ideal) x0 x1 = stepWeights (val_main_v12 (F := Ideal) x0 x1) (val_main_v15 (F := Ideal)) (val_main_v19 (F := Ideal)) (val_main_v13 (F := Ideal)) := rfl
  have s1 : val_main_v51 (F := Ideal) x0 x1 = stepWeights (val_main_v12 (F := Ideal) x0 x1) (val_main_v35 (F := Ideal)) (val_main_v39 (F := Ideal)) (val_main_v31 (F := Ideal) x0 x1) := rfl
  have s2 : val_main_v71 (F := Ideal) x0 x1 = stepWeights (val_main_v12 (F := Ideal) x0 x1) (val_main_v55 (F := Ideal)) (val_main_v59 (F := Ideal)) (val_main_v51 (F := Ideal) x0 x1) := rfl
  have s3 : val_main_v91 (F := Ideal) x0 x1 = stepWeights (val_main_v12 (F := Ideal) x0 x1) (val_main_v75 (F := Ideal)) (val_main_v79 (F := Ideal)) (val_main_v71 (F := Ideal) x0 x1) := rfl
  have s4 : val_main_v111 (F := Ideal) x0 x1 = stepWeights (val_main_v12 (F := Ideal) x0 x1) (val_main_v95 (F := Ideal)) (val_main_v99 (F := Ideal)) (val_main_v91 (F := Ideal) x0 x1) := rfl
  have s5 : val_main_v131 (F := Ideal) x0 x1 = stepWeights (val_main_v12 (F := Ideal) x0 x1) (val_main_v115 (F := Ideal)) (val_main_v119 (F := Ideal)) (val_main_v111 (F := Ideal) x0 x1) := rfl
  have s6 : val_main_v151 (F := Ideal) x0 x1 = stepWeights (val_main_v12 (F := Ideal) x0 x1) (val_main_v135 (F := Ideal)) (val_main_v139 (F := Ideal)) (val_main_v131 (F := Ideal) x0 x1) := rfl
  have s7 : val_main_v171 (F := Ideal) x0 x1 = stepWeights (val_main_v12 (F := Ideal) x0 x1) (val_main_v155 (F := Ideal)) (val_main_v159 (F := Ideal)) (val_main_v151 (F := Ideal) x0 x1) := rfl
  have s8 : val_main_v191 (F := Ideal) x0 x1 = stepWeights (val_main_v12 (F := Ideal) x0 x1) (val_main_v175 (F := Ideal)) (val_main_v179 (F := Ideal)) (val_main_v171 (F := Ideal) x0 x1) := rfl
  have s9 : val_main_v211 (F := Ideal) x0 x1 = stepWeights (val_main_v12 (F := Ideal) x0 x1) (val_main_v195 (F := Ideal)) (val_main_v199 (F := Ideal)) (val_main_v191 (F := Ideal) x0 x1) := rfl
  rw [s9, s8, s7, s6, s5, s4, s3, s2, s1, s0, a0, b0, a1, b1, a2, b2, a3, b3, a4, b4, a5, b5, a6, b6, a7, b7, a8, b8, a9, b9]
  rfl

/-- The ten steps on the number of nonempty bins, as the reference takes them. -/
theorem bins_eq : val_main_v213 (F := Ideal) x0 x1 = binsAfter (val_main_v12 (F := Ideal) x0 x1) 10 := by
  obtain ⟨a0, b0, a1, b1, a2, b2, a3, b3, a4, b4, a5, b5, a6, b6, a7, b7, a8, b8, a9, b9⟩ := cuts_eq
  have s : val_main_v213 (F := Ideal) x0 x1 =
      (let G := val_main_v12 (F := Ideal) x0 x1
       stepBins G (val_main_v195 (F := Ideal)) (val_main_v199 (F := Ideal)) <| stepBins G (val_main_v175 (F := Ideal)) (val_main_v179 (F := Ideal)) <|
       stepBins G (val_main_v155 (F := Ideal)) (val_main_v159 (F := Ideal)) <| stepBins G (val_main_v135 (F := Ideal)) (val_main_v139 (F := Ideal)) <|
       stepBins G (val_main_v115 (F := Ideal)) (val_main_v119 (F := Ideal)) <| stepBins G (val_main_v95 (F := Ideal)) (val_main_v99 (F := Ideal)) <|
       stepBins G (val_main_v75 (F := Ideal)) (val_main_v79 (F := Ideal)) <| stepBins G (val_main_v55 (F := Ideal)) (val_main_v59 (F := Ideal)) <|
       stepBins G (val_main_v35 (F := Ideal)) (val_main_v39 (F := Ideal)) <| stepBins G (val_main_v15 (F := Ideal)) (val_main_v19 (F := Ideal)) <|
       constant S_ .f32 0x00000000#32) := rfl
  rw [s, a0, b0, a1, b1, a2, b2, a3, b3, a4, b4, a5, b5, a6, b6, a7, b7, a8, b8, a9, b9]
  rfl

end Stages

/-- There are 10485760 entries. -/
theorem card_entries : Fintype.card S131072x80.Idx = 10485760 := by
  have h := sum_idx2 (n0 := 131072) (n1 := 80) (fun _ => (1 : ℕ))
  simpa using h

/-- The tally is the number of marks: it is too small to wrap. -/
theorem tally_eq (K : IVec S131072x80 1) (p : S131072x80.Idx → Prop) [DecidablePred p]
    (hK : ∀ i, K i = BitVec.ofBool (decide (p i))) (j : S_.Idx) :
    tally K j = ((∑ i, (if p i then 1 else 0) : ℝ) : EReal) := by
  have hred : Host.reduce IntOp.addi (extui 32 K natLt_1_32) (constantI S_ 32 0#32) reducesTo_S131072x80_S_d0_1 h_S_ j
      = BitVec.ofNat 32 (Finset.univ.filter p).card := by
    rw [Host.reduce_eq_fold, Finset.filter_true_of_mem fun i _ => funext fun a => a.elim0]
    have e := IndicatorCount.fold_addi_setWidth_eq_card (w := 32) K Finset.univ
    rw [Finset.filter_congr (q := p) fun i _ => by rw [hK]; by_cases h : p i <;> simp [h]] at e
    exact e
  show (((Host.reduce IntOp.addi (extui 32 K natLt_1_32) (constantI S_ 32 0#32) reducesTo_S131072x80_S_d0_1 h_S_ j).toInt : ℝ) : EReal) = _
  have hc : (Finset.univ.filter p).card ≤ 10485760 := card_entries ▸ Finset.card_le_univ _
  have hn : (BitVec.ofNat 32 (Finset.univ.filter p).card).toNat = (Finset.univ.filter p).card := by
    rw [BitVec.toNat_ofNat]; omega
  rw [hred, BitVec.toInt_eq_toNat_of_lt (by rw [hn]; omega), hn, Int.cast_natCast, Finset.sum_boole]

section Real

variable (G : FVec Ideal S131072x80 .f32) (g : S131072x80.Idx → ℝ) (hG : ∀ i, G i = ((g i : ℝ) : EReal))

/-- The number of entries of bin `b`. -/
def members (g : S131072x80.Idx → ℝ) (b : ℕ) : ℝ := within edge g (fun _ => 1) b

include hG

theorem inBin_eq (b : ℕ) (i : S131072x80.Idx) :
    inBin G (edgeNum b) (edgeNum (b + 1)) i = BitVec.ofBool (decide (edge b ≤ g i ∧ g i < edge (b + 1))) := by
  show IntOp.andi (Ideal.cmp .oge (G i) ((edge b : ℝ) : EReal)) (Ideal.cmp .olt (G i) ((edge (b + 1) : ℝ) : EReal)) = _
  rw [hG, cmp_oge, cmp_olt, andi_bool]

theorem tally_bin (b : ℕ) (j : S_.Idx) : tally (inBin G (edgeNum b) (edgeNum (b + 1))) j = ((members g b : ℝ) : EReal) :=
  tally_eq _ _ (inBin_eq G g hG b) j

theorem marked_bin (b : ℕ) (j : S_.Idx) :
    marked (inBin G (edgeNum b) (edgeNum (b + 1))) j = BitVec.ofBool (decide (0 < members g b)) := by
  show Ideal.cmp .ogt (tally _ j) (Ideal.ofBits .f32 0x00000000#32) = _
  rw [tally_bin G g hG, word_zero, cmp_ogt]

/-- The reference's weights are the weights of the entries' bins. -/
theorem weightsAfter_eq (i : S131072x80.Idx) : ∀ m, weightsAfter G m i = ((weight 80 edge g (members g) m i : ℝ) : EReal)
  | 0 => word_zero
  | m + 1 => by
    have hm : max (members g m) 1 ≠ 0 := (lt_of_lt_of_le one_pos (le_max_right _ _)).ne'
    show Scalar.select (IntOp.andi (inBin G (edgeNum m) (edgeNum (m + 1)) i) (marked (inBin G (edgeNum m) (edgeNum (m + 1))) _))
      (Ideal.div (Ideal.ofBits .f32 0x42A00000#32) (max (tally (inBin G (edgeNum m) (edgeNum (m + 1))) _) (Ideal.ofBits .f32 0x3F800000#32)))
      (weightsAfter G m i) = _
    rw [weightsAfter_eq i m, inBin_eq G g hG, marked_bin G g hG, tally_bin G g hG, word_one, word_eighty, max_real, div_real _ hm,
      andi_bool, select_real]
    rfl

/-- The reference's number of nonempty bins. -/
theorem binsAfter_eq (j : S_.Idx) : ∀ m, binsAfter G m j = ((filled (members g) m : ℝ) : EReal)
  | 0 => by
    show Ideal.ofBits .f32 0x00000000#32 = _
    rw [word_zero]; rfl
  | m + 1 => by
    show binsAfter G m j + (((marked (inBin G (edgeNum m) (edgeNum (m + 1))) j).toNat : ℝ) : EReal) = _
    rw [binsAfter_eq j m, marked_bin G g hG]
    unfold filled
    rw [Finset.sum_range_succ, ← EReal.coe_add]
    congr 2
    by_cases h : 0 < members g m <;> simp [h]

end Real

/-- The reference's result, over real gradient norms and losses. -/
theorem reference_value (x0 x1 : (⟨S131072x80, .f32⟩ : BufTy).Contents (Elt Ideal)) (g l : S131072x80.Idx → ℝ)
    (hg : ∀ i, val_main_v12 (F := Ideal) x0 x1 i = ((g i : ℝ) : EReal))
    (hl : ∀ i, val_main_v227 (F := Ideal) x0 x1 i = ((l i : ℝ) : EReal)) :
    val_main_v230 (F := Ideal) x0 x1 = fun _ =>
      (((∑ i, perBin (filled (members g) 10) (weight 80 edge g (members g) 10 i) * l i) / 80 : ℝ) : EReal) := by
  have hn : ∀ j, val_main_v213 (F := Ideal) x0 x1 j = ((filled (members g) 10 : ℝ) : EReal) := fun j => by
    rw [bins_eq, binsAfter_eq _ g hg]
  have hw : ∀ i, val_main_v211 (F := Ideal) x0 x1 i = ((weight 80 edge g (members g) 10 i : ℝ) : EReal) := fun i => by
    rw [weights_eq, weightsAfter_eq _ g hg]
  have hm : max (filled (members g) 10) 1 ≠ 0 := (lt_of_lt_of_le one_pos (le_max_right _ _)).ne'
  have hs : ∀ i, val_main_v228 (F := Ideal) x0 x1 i
      = ((perBin (filled (members g) 10) (weight 80 edge g (members g) 10 i) * l i : ℝ) : EReal) := fun i => by
    have h218 : val_main_v218 (F := Ideal) x0 x1 i
        = Scalar.select (val_main_v214 (F := Ideal) x0 x1 (fun a => a.elim0)) (val_main_v217 (F := Ideal) x0 x1 i) (val_main_v211 (F := Ideal) x0 x1 i) := by
      show Scalar.select (val_main_v214 (F := Ideal) x0 x1 _) _ _ = _
      congr 2
      exact funext fun a => a.elim0
    rw [val_main_v228_apply, h218, val_main_v214_apply, val_main_v217_apply, val_main_v216_apply, val_main_v215_apply, hw, hl]
    simp only [hn, val_main_cst_45_apply, val_main_cst_46_apply, Ideal.ofBits_def, word_zero, word_one, Ideal.cmpf_def, Ideal.maximumf_def,
      Ideal.hostDivf_def, Ideal.mulf_def]
    rw [max_real, div_real _ hm, cmp_ogt, select_real, ← EReal.coe_mul]
    rfl
  funext j
  rw [val_main_v230_apply, val_main_v229_apply, val_main_cst_48_apply, val_main_cst_49_apply]
  simp only [hs, Ideal.ofBits_def, word_zero, word_eighty, Ideal.hostDivf_def]
  rw [sum_real, ← EReal.coe_add, zero_add, div_real _ (by norm_num)]

end Cert.Ghm

end
-- ==== Proof.KernelValue.lean ====
/- The kernel's number over the reals: the mean losses of the nonempty bins, added up, over the number of those bins. -/
module

public import proofs.«01_k».proof.Proof.KernelRun
public import proofs.«01_k».proof.Proof.Entries
public import proofs.«01_k».proof.Proof.RefResult

@[expose] public section

set_option maxRecDepth 16384

noncomputable section

namespace Cert.Ghm

open Idealize.ShloMosaic Idealize.ShloMosaic.TcCoe Idealize.ShloMosaic.ValueIdx
open Cert.KernelIdeal Cert.KernelIdeal.Gen

section Finish

variable (C S : ℕ → EReal) (c s : ℕ → ℝ) (hC : ∀ b, b < 11 → C b = ((c b : ℝ) : EReal)) (hS : ∀ b, b < 11 → S b = ((s b : ℝ) : EReal))

include hC

/-- The number of nonempty bins, from real counts at the levels. -/
theorem binsK_real : ∀ m, m < 11 → binsK C m = ((filled (fun b => c b - c (b + 1)) m : ℝ) : EReal)
  | 0, _ => word_zero
  | m + 1, h => by
    unfold binsK filled
    rw [binsK_real m (by omega), hC m (by omega), hC (m + 1) h, word_zero, word_one, ← EReal.coe_sub, cmp_ogt, select_real,
      Finset.sum_range_succ, ← EReal.coe_add]
    rfl

include hS

/-- The sum of the mean losses, from real counts and losses at the levels. -/
theorem meansK_real : ∀ m, m < 11 →
    meansK C S m = ((means (fun b => c b - c (b + 1)) (fun b => s b - s (b + 1)) m : ℝ) : EReal)
  | 0, _ => word_zero
  | m + 1, h => by
    have hm : max (c m - c (m + 1)) 1 ≠ 0 := (lt_of_lt_of_le one_pos (le_max_right _ _)).ne'
    unfold meansK means
    rw [meansK_real m (by omega), hC m (by omega), hC (m + 1) h, hS m (by omega), hS (m + 1) h, word_zero, word_one, ← EReal.coe_sub,
      ← EReal.coe_sub, cmp_ogt, max_real, div_real _ hm, select_real, Finset.sum_range_succ, ← EReal.coe_add]
    rfl

/-- The finishing arithmetic over the reals. -/
theorem finishK_real : finishK C S = ((perBin (filled (fun b => c b - c (b + 1)) 10)
    (means (fun b => c b - c (b + 1)) (fun b => s b - s (b + 1)) 10) : ℝ) : EReal) := by
  have hm : max (filled (fun b => c b - c (b + 1)) 10) 1 ≠ 0 := (lt_of_lt_of_le one_pos (le_max_right _ _)).ne'
  unfold finishK
  rw [binsK_real C c hC 10 (by omega), meansK_real C S c s hC hS 10 (by omega), word_zero, word_one, cmp_ogt, max_real, div_real _ hm,
    select_real]
  rfl

end Finish

variable (X0 X1 : Vec Ideal S131072x80 .f32) (p t : S131072x80.Idx → ℝ)
  (h0 : ∀ i, X0 i = ((p i : ℝ) : EReal)) (h1 : ∀ i, X1 i = ((t i : ℝ) : EReal)) (ht : ∀ i, 0 ≤ t i ∧ t i ≤ 1)

/-- The gradient norms of the entries. -/
def gradients (p t : S131072x80.Idx → ℝ) : S131072x80.Idx → ℝ := fun i => gradient (p i) (t i)

/-- The losses of the entries. -/
def entropies (p t : S131072x80.Idx → ℝ) : S131072x80.Idx → ℝ := fun i => entropy (p i) (t i)

/-- Every entry is at or above the lowest edge. -/
theorem above_first (l : S131072x80.Idx → ℝ) : above edge (gradients p t) l 0 = ∑ i, l i := by
  unfold above
  refine Finset.sum_congr rfl fun i _ => if_pos ?_
  have := gradient_nonneg (p i) (t i)
  unfold edge
  simpa [gradients] using this

include ht in
/-- No entry is at or above the last edge. -/
theorem above_last (l : S131072x80.Idx → ℝ) : above edge (gradients p t) l 10 = 0 := by
  unfold above
  refine Finset.sum_eq_zero fun i _ => if_neg ?_
  have := gradient_le_one (p i) (t i) (ht i).1 (ht i).2
  have := nudge_pos
  unfold edge
  rw [if_neg (by omega), not_le]
  show gradient (p i) (t i) < 1 + nudge
  linarith

include h0 h1

theorem cnt_level (b : ℕ) (hb : b < 9) :
    ∑ j, cntK b (X0 j) (X1 j) = ((above edge (gradients p t) (fun _ => 1) (b + 1) : ℝ) : EReal) := by
  rw [Finset.sum_congr rfl fun j _ => by rw [h0, h1, cntK_real b hb], sum_real]
  rfl

theorem sum_level (b : ℕ) (hb : b < 9) :
    ∑ j, sumK b (X0 j) (X1 j) = ((above edge (gradients p t) (entropies p t) (b + 1) : ℝ) : EReal) := by
  rw [Finset.sum_congr rfl fun j _ => by rw [h0, h1, sumK_real b hb], sum_real]
  rfl

theorem loss_level : ∑ j, lossK (X0 j) (X1 j) = ((above edge (gradients p t) (entropies p t) 0 : ℝ) : EReal) := by
  rw [Finset.sum_congr rfl fun j _ => by rw [h0, h1, lossK_real], sum_real, above_first]
  rfl

include ht

/-- The counts at the eleven levels. -/
theorem levelCnt_real (b : ℕ) (hb : b < 11) :
    levelCnt (stack 72 X0 X1 cntK 8) b = ((above edge (gradients p t) (fun _ => 1) b : ℝ) : EReal) := by
  have inner : ∀ (k o : ℕ) (hk : k < 9) (ho : o = 8 * k) (inb), stackSum (stack 72 X0 X1 cntK 8) o inb
      = ((above edge (gradients p t) (fun _ => 1) (k + 1) : ℝ) : EReal) := fun k o hk ho inb =>
    (stackSum_eq 72 X0 X1 cntK k o ho inb).trans (cnt_level X0 X1 p t h0 h1 k hk)
  match b, hb with
  | 0, _ =>
    rw [above_first]
    refine word_entries.trans ?_
    have hc : (Fintype.card S131072x80.Idx : ℝ) = 10485760 := by rw [show Fintype.card S131072x80.Idx = 10485760 from card_entries]; norm_num
    rw [Finset.sum_const, Finset.card_univ, nsmul_eq_mul, mul_one, hc]
  | 10, _ => rw [above_last p t ht]; exact word_zero
  | 1, _ => exact inner 0 0 (by omega) rfl _
  | 2, _ => exact inner 1 8 (by omega) rfl _
  | 3, _ => exact inner 2 16 (by omega) rfl _
  | 4, _ => exact inner 3 24 (by omega) rfl _
  | 5, _ => exact inner 4 32 (by omega) rfl _
  | 6, _ => exact inner 5 40 (by omega) rfl _
  | 7, _ => exact inner 6 48 (by omega) rfl _
  | 8, _ => exact inner 7 56 (by omega) rfl _
  | 9, _ => exact inner 8 64 (by omega) rfl _

/-- The losses at the eleven levels. -/
theorem levelLoss_real (b : ℕ) (hb : b < 11) :
    levelLoss (stack 80 X0 X1 lossLevel 8) b = ((above edge (gradients p t) (entropies p t) b : ℝ) : EReal) := by
  have inner : ∀ (k o : ℕ) (hk : k < 9) (ho : o = 8 * (k + 1)) (inb), stackSum (stack 80 X0 X1 lossLevel 8) o inb
      = ((above edge (gradients p t) (entropies p t) (k + 1) : ℝ) : EReal) := fun k o hk ho inb =>
    (stackSum_eq 80 X0 X1 lossLevel (k + 1) o ho inb).trans (sum_level X0 X1 p t h0 h1 k hk)
  match b, hb with
  | 0, _ => exact (stackSum_eq 80 X0 X1 lossLevel 0 0 rfl _).trans (loss_level X0 X1 p t h0 h1)
  | 10, _ => rw [above_last p t ht]; exact word_zero
  | 1, _ => exact inner 0 8 (by omega) rfl _
  | 2, _ => exact inner 1 16 (by omega) rfl _
  | 3, _ => exact inner 2 24 (by omega) rfl _
  | 4, _ => exact inner 3 32 (by omega) rfl _
  | 5, _ => exact inner 4 40 (by omega) rfl _
  | 6, _ => exact inner 5 48 (by omega) rfl _
  | 7, _ => exact inner 6 56 (by omega) rfl _
  | 8, _ => exact inner 7 64 (by omega) rfl _
  | 9, _ => exact inner 8 72 (by omega) rfl _

/-- The kernel's number: the nonempty bins' mean losses, averaged over those bins. -/
theorem kernelValue_real : kernelValue X0 X1 = ((perBin (filled (members (gradients p t)) 10)
    (means (members (gradients p t)) (within edge (gradients p t) (entropies p t)) 10) : ℝ) : EReal) := by
  have hc : ∀ b, above edge (gradients p t) (fun _ => 1) b - above edge (gradients p t) (fun _ => 1) (b + 1)
      = members (gradients p t) b := fun b => above_sub edge edge_le _ _ b
  have hs : ∀ b, above edge (gradients p t) (entropies p t) b - above edge (gradients p t) (entropies p t) (b + 1)
      = within edge (gradients p t) (entropies p t) b := fun b => above_sub edge edge_le _ _ b
  unfold kernelValue
  rw [finishK_real _ _ _ _ (levelCnt_real X0 X1 p t h0 h1 ht) (levelLoss_real X0 X1 p t h0 h1 ht)]
  simp only [hc, hs]

end Cert.Ghm

end
-- ==== Proof.Plausible.lean ====
/- What the precondition says of the arguments: every logit is a real number, every label a real number between 0 and 1. -/
module

public import proofs.«01_k».proof.Pre_plausible
public import proofs.«01_k».proof.Proof.Reals
public import Idealize.ShloMosaic.Lib.ReduceAll

@[expose] public section

set_option maxRecDepth 16384

noncomputable section

namespace Cert.Ghm

open Idealize.ShloMosaic Cert.Pre_plausible

/-- The shape relations of the precondition's operations. -/
theorem plausibleFacts : Cert.Pre_plausible.Facts :=
  ⟨by decide, by decide, by decide⟩

/-- The word of positive infinity. -/
theorem word_top : Ideal.ofBits .f32 0x7F800000#32 = ⊤ := by
  simp [Ideal.ofBits, Ideal.ieee]

instance : Subsingleton S_.Idx := ⟨fun a b => funext fun i => i.elim0⟩

/-- A truth value that is one. -/
theorem ofBool_eq_one {q : Prop} [Decidable q] (h : BitVec.ofBool (decide q) = 1#1) : q := by
  by_contra hq
  simp [hq] at h

/-- An extended real of finite size is a real. -/
theorem real_of_abs_lt_top (x : EReal) (h : max x (-x) < ⊤) : ∃ r : ℝ, x = (r : EReal) := by
  induction x with
  | bot => simp at h
  | top => simp at h
  | coe r => exact ⟨r, rfl⟩

/-- An extended real between 0 and 1 is a real between 0 and 1. -/
theorem real_of_unit (x : EReal) (h0 : ((0 : ℝ) : EReal) ≤ x) (h1 : x ≤ ((1 : ℝ) : EReal)) :
    ∃ r : ℝ, x = (r : EReal) ∧ 0 ≤ r ∧ r ≤ 1 := by
  induction x with
  | bot => exact absurd h0 (not_le.mpr (EReal.bot_lt_coe 0))
  | top => exact absurd h1 (not_le.mpr (EReal.coe_lt_top 1))
  | coe r => exact ⟨r, rfl, EReal.coe_le_coe_iff.mp h0, EReal.coe_le_coe_iff.mp h1⟩

/-- The precondition read at every entry. -/
theorem plausible_entries [Cert.Pre_plausible.Facts] (X0 X1 : FVec Ideal S131072x80 .f32)
    (h : Cert.Pre_plausible.fn (F := Ideal) X0 X1 = fun _ => 1#1) :
    ∃ p t : S131072x80.Idx → ℝ, (∀ i, X0 i = ((p i : ℝ) : EReal)) ∧ (∀ i, X1 i = ((t i : ℝ) : EReal)) ∧ ∀ i, 0 ≤ t i ∧ t i ≤ 1 := by
  have hj := congrFun h (fun a => a.elim0)
  obtain ⟨ha, hb⟩ := IntOp.andi_eq_one.1 hj
  have h0 : ∀ i, ∃ r : ℝ, X0 i = (r : EReal) := fun i => by
    have e : Ideal.cmp .olt (max (X0 i) (-(X0 i))) (Ideal.ofBits .f32 0x7F800000#32) = 1#1 := Host.reduce_andi_all _ _ _ _ _ ha i
    rw [word_top] at e
    exact real_of_abs_lt_top _ (ofBool_eq_one e)
  have h1 : ∀ i, ∃ r : ℝ, X1 i = (r : EReal) ∧ 0 ≤ r ∧ r ≤ 1 := fun i => by
    have e : IntOp.andi (Ideal.cmp .oge (X1 i) (Ideal.ofBits .f32 0x00000000#32)) (Ideal.cmp .ole (X1 i) (Ideal.ofBits .f32 0x3F800000#32))
        = 1#1 := Host.reduce_andi_all _ _ _ _ _ hb i
    rw [word_zero, word_one] at e
    obtain ⟨e0, e1⟩ := IntOp.andi_eq_one.1 e
    exact real_of_unit _ (ofBool_eq_one e0) (ofBool_eq_one e1)
  choose p hp using h0
  choose t ht using h1
  exact ⟨p, t, hp, fun i => (ht i).1, fun i => (ht i).2⟩

end Cert.Ghm

end
-- ==== Proof.Agreement.lean ====
/- Kernel and reference compute the same number from plausible arguments. -/
module

public import proofs.«01_k».proof.Defs
public import proofs.«01_k».proof.Proof.KernelValue
public import proofs.«01_k».proof.Proof.Plausible

@[expose] public section

set_option maxRecDepth 16384

noncomputable section

namespace Cert.Ghm

open Idealize.ShloMosaic Idealize.ShloMosaic.TcCoe Idealize.SL.Sem

/-- From logits that are real numbers and labels between 0 and 1, the reference's result is the kernel's. -/
theorem values_agree (x0 x1 : Vec Ideal Cert.KernelIdeal.S131072x80 .f32) (p t : Cert.KernelIdeal.S131072x80.Idx → ℝ)
    (h0 : ∀ i, x0 i = ((p i : ℝ) : EReal)) (h1 : ∀ i, x1 i = ((t i : ℝ) : EReal)) (ht : ∀ i, 0 ≤ t i ∧ t i ≤ 1) :
    Cert.ReferenceIdeal.Read.val_main_v230 (F := Ideal) x0 x1 = fun _ => kernelValue x0 x1 := by
  rw [kernelValue_real x0 x1 p t h0 h1 ht, binned_eq_weighted 80 (by norm_num) edge edge_le]
  exact reference_value x0 x1 (gradients p t) (entropies p t)
    (fun i => refGradient x0 x1 i (p i) (t i) (h0 i) (h1 i)) (fun i => refEntropy x0 x1 i (p i) (t i) (h0 i) (h1 i))

/-- The reference runs; its result is its last stage at the argument arrays, which end unchanged. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      fun r => ∀ c : Dev Cert.ReferenceIdeal.nD,
        r.2.mem (c.tc.loc Cert.ReferenceIdeal.main_v230) = Cert.ReferenceIdeal.Read.val_main_v230 (F := Ideal)
            (m (c.tc.loc Cert.ReferenceIdeal.main_arg0)) (m (c.tc.loc Cert.ReferenceIdeal.main_arg1))
        ∧ r.2.mem (c.tc.loc Cert.ReferenceIdeal.main_arg0) = m (c.tc.loc Cert.ReferenceIdeal.main_arg0)
        ∧ r.2.mem (c.tc.loc Cert.ReferenceIdeal.main_arg1) = m (c.tc.loc Cert.ReferenceIdeal.main_arg1) :=
  (θ_run (Cert.ReferenceIdeal.defs (F := Ideal)) _ _).mono
    (fun _ h c => ⟨(h c).1.trans (Cert.ReferenceIdeal.Read.val_main_v230_eq (Idealize.ShloMosaic.StableHlo.launchContents m c)), (h c).2⟩)
    (Cert.ReferenceIdeal.Value.run (F := Ideal) m ρ)

/-- The reference's frame: it runs, its arguments end unchanged, and it has no counter to leave set. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      fun r => (∀ c : Dev Cert.ReferenceIdeal.nD,
        r.2.mem (c.tc.loc Cert.ReferenceIdeal.main_arg0) = m (c.tc.loc Cert.ReferenceIdeal.main_arg0)
        ∧ r.2.mem (c.tc.loc Cert.ReferenceIdeal.main_arg1) = m (c.tc.loc Cert.ReferenceIdeal.main_arg1)) ∧ r.2.sem = fun _ => 0 :=
  (θ_run (Cert.ReferenceIdeal.defs (F := Ideal)) _ _).mono
    (fun r h => ⟨fun c => (h c).2, sem_eq_zero_of_no_sems (by decide) r.2⟩) (reference_run m ρ)

attribute [local instance] plausibleFacts

/-- The algebraic claim: from plausible arguments both programs end with the same number. -/
theorem agreement : Cert.algebraic_KernelIdeal_ReferenceIdeal_pre_plausible := by
  intro m g m' g' hpre hargs
  refine ⟨fun c _ => kernelValue (m (c.tc.loc Cert.KernelIdeal.main_arg0)) (m (c.tc.loc Cert.KernelIdeal.main_arg1)), kernel_run m g,
    (θ_run (Cert.ReferenceIdeal.defs (F := Ideal)) _ _).mono (fun r h c => ⟨(h c).1.trans ?_, (h c).2⟩) (reference_run m' g')⟩
  obtain ⟨p, t, h0, h1, ht⟩ := plausible_entries _ _ (hpre c)
  rw [(hargs c).1, (hargs c).2]
  exact values_agree _ _ p t h0 h1 ht

/-- Each named edge stands for its tenth, and its word is what the kernel holds. -/
theorem edges_named : Cert.preserves_Kernel_KernelIdeal :=
  ⟨IdealRules.named_const.statement Cert.KernelIdeal.κ "edge1" .f32 0x3DCCCCCD#32 ((1 / 10 : ℝ) : EReal) rfl,
   IdealRules.named_const.statement Cert.KernelIdeal.κ "edge2" .f32 0x3E4CCCCD#32 ((1 / 5 : ℝ) : EReal) rfl,
   IdealRules.named_const.statement Cert.KernelIdeal.κ "edge3" .f32 0x3E99999A#32 ((3 / 10 : ℝ) : EReal) rfl,
   IdealRules.named_const.statement Cert.KernelIdeal.κ "edge4" .f32 0x3ECCCCCD#32 ((2 / 5 : ℝ) : EReal) rfl,
   IdealRules.named_const.statement Cert.KernelIdeal.κ "edge5" .f32 0x3F000000#32 ((1 / 2 : ℝ) : EReal) rfl,
   IdealRules.named_const.statement Cert.KernelIdeal.κ "edge6" .f32 0x3F19999A#32 ((3 / 5 : ℝ) : EReal) rfl,
   IdealRules.named_const.statement Cert.KernelIdeal.κ "edge7" .f32 0x3F333333#32 ((7 / 10 : ℝ) : EReal) rfl,
   IdealRules.named_const.statement Cert.KernelIdeal.κ "edge8" .f32 0x3F4CCCCD#32 ((4 / 5 : ℝ) : EReal) rfl,
   IdealRules.named_const.statement Cert.KernelIdeal.κ "edge9" .f32 0x3F666666#32 ((9 / 10 : ℝ) : EReal) rfl⟩

end Cert.Ghm

end
-- ==== Proof.lean ====
/- The certificate: the two programs' frames, the named edges, and that kernel and reference compute the same number.
   What is proved where: Trip (one trip of the loop over row chunks), Bands (one grid point's stacks), Finish (the last
   point's arithmetic), Stacks (the stacks over the grid), KernelRun (the run), KernelValue (its number over the reals),
   RefEdges and RefResult (the reference), Entries (one entry), Binning (the equation), Plausible (the precondition),
   Agreement (the claims). -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Agreement
public import Idealize.ShloMosaic.Adequacy
public import Idealize.ShloMosaic.Init

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts, Cert.Ghm.plausibleFacts,
    fun m ρ _ => Cert.Kernel.Gen.frame m ρ, fun m ρ _ => Cert.KernelIdeal.Gen.frame m ρ, fun m ρ _ => Cert.KernelIdeal.Gen.frame m ρ,
    fun m ρ _ => Cert.Ghm.reference_frame m ρ, fun m ρ _ => Cert.Ghm.reference_frame m ρ, Cert.Ghm.edges_named, Cert.Ghm.agreement⟩

end Cert.Proof

end
